-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v146)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v146) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_v19) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)) (v2 : (c : Dev Cert.Kernel4Ideal.nD) → Buf (Elt Ideal) ((c.tc : Thread Cert.Kernel4Ideal.nD Cert.Kernel4Ideal.τ).loc Cert.Kernel4Ideal.main_v6_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_v6_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v25) = v0 c
          ∧ r.2.mem ((c.tc : Thread Cert.Reference4Ideal.nD Cert.Reference4Ideal.τ).loc Cert.Reference4Ideal.main_v39) = v1 c
          ∧ r.2.mem ((c.tc : Thread Cert.Reference4Ideal.nD Cert.Reference4Ideal.τ).loc Cert.Reference4Ideal.main_v41) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S65536x4096 : Shape := ⟨2, ![65536, 4096]⟩
abbrev S65536x3072 : Shape := ⟨2, ![65536, 3072]⟩
abbrev S16x257 : Shape := ⟨2, ![16, 257]⟩
abbrev S65536x1024 : Shape := ⟨2, ![65536, 1024]⟩
abbrev S_ : Shape := ⟨0, ![]⟩

class Facts : Prop where
  slices_S65536x4096_S65536x1024_0_0 : S65536x4096.Slices ![0, 0] S65536x1024
  bitsLt_bf16_f32 : FTy.bits .bf16 < FTy.bits .f32
  bcast_S_S65536x1024 : S_.BroadcastsInDim S65536x1024 (![] : Fin 0 → Fin S65536x1024.rank)
  slices_S65536x3072_S65536x1024_0_0 : S65536x3072.Slices ![0, 0] S65536x1024
  bcast_S_S16x257 : S_.BroadcastsInDim S16x257 (![] : Fin 0 → Fin S16x257.rank)

variable [Facts]

def fn {F : FTy → Type} [FloatOps F] (main_arg0 : FVec F S65536x4096 .bf16) (main_arg1 : FVec F S65536x3072 .f32) (main_arg2 : FVec F S16x257 .f32) : IVec S65536x1024 1 × IVec S65536x1024 1 × IVec S16x257 1 :=
  let main_v0 : FVec F S65536x1024 .bf16 := (extractStridedSlice S65536x1024 ![0, 0] · slices_S65536x4096_S65536x1024_0_0) main_arg0
  let main_v1 : FVec F S65536x1024 .f32 := (extf .f32 · bitsLt_bf16_f32) main_v0
  let main_v2 : FVec F S65536x1024 .f32 := Host.absf main_v1
  let main_cst : FVec F S_ .f32 := constant S_ .f32 0x7F800000#32
  let main_v3 : FVec F S65536x1024 .f32 := broadcastInDim S65536x1024 ![] bcast_S_S65536x1024 main_cst
  let main_v4 : IVec S65536x1024 1 := cmpf .olt main_v2 main_v3
  let main_v5 : FVec F S65536x1024 .f32 := (extractStridedSlice S65536x1024 ![0, 0] · slices_S65536x3072_S65536x1024_0_0) main_arg1
  let main_v6 : FVec F S65536x1024 .f32 := Host.absf main_v5
  let main_cst_0 : FVec F S_ .f32 := constant S_ .f32 0x7F800000#32
  let main_v7 : FVec F S65536x1024 .f32 := broadcastInDim S65536x1024 ![] bcast_S_S65536x1024 main_cst_0
  let main_v8 : IVec S65536x1024 1 := cmpf .olt main_v6 main_v7
  let main_v9 : FVec F S16x257 .f32 := Host.absf main_arg2
  let main_cst_1 : FVec F S_ .f32 := constant S_ .f32 0x7F800000#32
  let main_v10 : FVec F S16x257 .f32 := broadcastInDim S16x257 ![] bcast_S_S16x257 main_cst_1
  let main_v11 : IVec S16x257 1 := cmpf .olt main_v9 main_v10
  (main_v4, main_v8, main_v11)
-- ==== Kernel.lean ====
abbrev S65536x4096 : Shape := ⟨2, ![65536, 4096]⟩
abbrev S65536x3072 : Shape := ⟨2, ![65536, 3072]⟩
abbrev S16x257 : Shape := ⟨2, ![16, 257]⟩
abbrev S639 : Shape := ⟨1, ![639]⟩
abbrev S_ : Shape := ⟨0, ![]⟩
abbrev S639x1 : Shape := ⟨2, ![639, 1]⟩
abbrev S16x639 : Shape := ⟨2, ![16, 639]⟩
abbrev S16x576 : Shape := ⟨2, ![16, 576]⟩
abbrev S16x1x576 : Shape := ⟨3, ![16, 1, 576]⟩
abbrev S16x16x576 : Shape := ⟨3, ![16, 16, 576]⟩
abbrev S16x64x576 : Shape := ⟨3, ![16, 64, 576]⟩
abbrev S65536x1024 : Shape := ⟨2, ![65536, 1024]⟩
abbrev S512x1024 : Shape := ⟨2, ![512, 1024]⟩
abbrev S1024x1024 : Shape := ⟨2, ![1024, 1024]⟩
abbrev S64x128 : Shape := ⟨2, ![64, 128]⟩
abbrev S64x1024 : Shape := ⟨2, ![64, 1024]⟩
abbrev S576x1024 : Shape := ⟨2, ![576, 1024]⟩
abbrev S64x576 : Shape := ⟨2, ![64, 576]⟩
abbrev S128x128 : Shape := ⟨2, ![128, 128]⟩
abbrev S576x128 : Shape := ⟨2, ![576, 128]⟩
abbrev S128x576 : Shape := ⟨2, ![128, 576]⟩
abbrev S1x64x576 : Shape := ⟨3, ![1, 64, 576]⟩
abbrev S64 : Shape := ⟨1, ![64]⟩
abbrev S64x1 : Shape := ⟨2, ![64, 1]⟩

abbrev nBuf : Space → Nat
  | .hbm => 161
  | .vmem => 15
  | .smem => 0
  | _ => 0

abbrev hbmTy0_0 (i : Nat) : BufTy := match i % 128 with
  | 0 => ⟨S65536x4096, .bf16⟩
  | 1 => ⟨S65536x3072, .f32⟩
  | 2 => ⟨S16x257, .f32⟩
  | 3 => ⟨S639, .i32⟩
  | 4 => ⟨S_, .i32⟩
  | 5 => ⟨S639, .i32⟩
  | 6 => ⟨S639, .i32⟩
  | 7 => ⟨S_, .i32⟩
  | 8 => ⟨S_, .i32⟩
  | 9 => ⟨S_, .i32⟩
  | 10 => ⟨S639, .i32⟩
  | 11 => ⟨S639, .i32⟩
  | 12 => ⟨S_, .i32⟩
  | 13 => ⟨S639, .i32⟩
  | 14 => ⟨S639, .i32⟩
  | 15 => ⟨S_, .i32⟩
  | 16 => ⟨S639, .i32⟩
  | 17 => ⟨S639, .i32⟩
  | 18 => ⟨S_, .i32⟩
  | 19 => ⟨S639, .i32⟩
  | 20 => ⟨S639, .i1⟩
  | 21 => ⟨S_, .i32⟩
  | 22 => ⟨S639, .i32⟩
  | 23 => ⟨S639, .i32⟩
  | 24 => ⟨S639, .i32⟩
  | 25 => ⟨S639x1, .i32⟩
  | 26 => ⟨S16x639, .f32⟩
  | 27 => ⟨S16x576, .f32⟩
  | 28 => ⟨S16x576, .f32⟩
  | 29 => ⟨S16x576, .f32⟩
  | 30 => ⟨S16x576, .f32⟩
  | 31 => ⟨S16x576, .f32⟩
  | 32 => ⟨S16x576, .f32⟩
  | 33 => ⟨S16x576, .f32⟩
  | 34 => ⟨S16x576, .f32⟩
  | 35 => ⟨S16x576, .f32⟩
  | 36 => ⟨S16x576, .f32⟩
  | 37 => ⟨S16x576, .f32⟩
  | 38 => ⟨S16x576, .f32⟩
  | 39 => ⟨S16x576, .f32⟩
  | 40 => ⟨S16x576, .f32⟩
  | 41 => ⟨S16x576, .f32⟩
  | 42 => ⟨S16x576, .f32⟩
  | 43 => ⟨S16x576, .f32⟩
  | 44 => ⟨S16x576, .f32⟩
  | 45 => ⟨S16x576, .f32⟩
  | 46 => ⟨S16x576, .f32⟩
  | 47 => ⟨S16x576, .f32⟩
  | 48 => ⟨S16x576, .f32⟩
  | 49 => ⟨S16x576, .f32⟩
  | 50 => ⟨S16x576, .f32⟩
  | 51 => ⟨S16x576, .f32⟩
  | 52 => ⟨S16x576, .f32⟩
  | 53 => ⟨S16x576, .f32⟩
  | 54 => ⟨S16x576, .f32⟩
  | 55 => ⟨S16x576, .f32⟩
  | 56 => ⟨S16x576, .f32⟩
  | 57 => ⟨S16x576, .f32⟩
  | 58 => ⟨S16x576, .f32⟩
  | 59 => ⟨S16x576, .f32⟩
  | 60 => ⟨S16x576, .f32⟩
  | 61 => ⟨S16x576, .f32⟩
  | 62 => ⟨S16x576, .f32⟩
  | 63 => ⟨S16x576, .f32⟩
  | 64 => ⟨S16x576, .f32⟩
  | 65 => ⟨S16x576, .f32⟩
  | 66 => ⟨S16x576, .f32⟩
  | 67 => ⟨S16x576, .f32⟩
  | 68 => ⟨S16x576, .f32⟩
  | 69 => ⟨S16x576, .f32⟩
  | 70 => ⟨S16x576, .f32⟩
  | 71 => ⟨S16x576, .f32⟩
  | 72 => ⟨S16x576, .f32⟩
  | 73 => ⟨S16x576, .f32⟩
  | 74 => ⟨S16x576, .f32⟩
  | 75 => ⟨S16x576, .f32⟩
  | 76 => ⟨S16x576, .f32⟩
  | 77 => ⟨S16x576, .f32⟩
  | 78 => ⟨S16x576, .f32⟩
  | 79 => ⟨S16x576, .f32⟩
  | 80 => ⟨S16x576, .f32⟩
  | 81 => ⟨S16x576, .f32⟩
  | 82 => ⟨S16x576, .f32⟩
  | 83 => ⟨S16x576, .f32⟩
  | 84 => ⟨S16x576, .f32⟩
  | 85 => ⟨S16x576, .f32⟩
  | 86 => ⟨S16x576, .f32⟩
  | 87 => ⟨S16x576, .f32⟩
  | 88 => ⟨S16x576, .f32⟩
  | 89 => ⟨S16x576, .f32⟩
  | 90 => ⟨S16x576, .f32⟩
  | 91 => ⟨S16x1x576, .f32⟩
  | 92 => ⟨S16x1x576, .f32⟩
  | 93 => ⟨S16x1x576, .f32⟩
  | 94 => ⟨S16x1x576, .f32⟩
  | 95 => ⟨S16x1x576, .f32⟩
  | 96 => ⟨S16x1x576, .f32⟩
  | 97 => ⟨S16x1x576, .f32⟩
  | 98 => ⟨S16x1x576, .f32⟩
  | 99 => ⟨S16x1x576, .f32⟩
  | 100 => ⟨S16x1x576, .f32⟩
  | 101 => ⟨S16x1x576, .f32⟩
  | 102 => ⟨S16x1x576, .f32⟩
  | 103 => ⟨S16x1x576, .f32⟩
  | 104 => ⟨S16x1x576, .f32⟩
  | 105 => ⟨S16x1x576, .f32⟩
  | 106 => ⟨S16x1x576, .f32⟩
  | 107 => ⟨S16x1x576, .f32⟩
  | 108 => ⟨S16x1x576, .f32⟩
  | 109 => ⟨S16x1x576, .f32⟩
  | 110 => ⟨S16x1x576, .f32⟩
  | 111 => ⟨S16x1x576, .f32⟩
  | 112 => ⟨S16x1x576, .f32⟩
  | 113 => ⟨S16x1x576, .f32⟩
  | 114 => ⟨S16x1x576, .f32⟩
  | 115 => ⟨S16x1x576, .f32⟩
  | 116 => ⟨S16x1x576, .f32⟩
  | 117 => ⟨S16x1x576, .f32⟩
  | 118 => ⟨S16x1x576, .f32⟩
  | 119 => ⟨S16x1x576, .f32⟩
  | 120 => ⟨S16x1x576, .f32⟩
  | 121 => ⟨S16x1x576, .f32⟩
  | 122 => ⟨S16x1x576, .f32⟩
  | 123 => ⟨S16x1x576, .f32⟩
  | 124 => ⟨S16x1x576, .f32⟩
  | 125 => ⟨S16x1x576, .f32⟩
  | 126 => ⟨S16x1x576, .f32⟩
  | 127 => ⟨S16x1x576, .f32⟩
  | _ => ⟨S65536x4096, .bf16⟩

abbrev hbmTy0_1 (i : Nat) : BufTy := match i % 128 with
  | 0 => ⟨S16x1x576, .f32⟩
  | 1 => ⟨S16x1x576, .f32⟩
  | 2 => ⟨S16x1x576, .f32⟩
  | 3 => ⟨S16x1x576, .f32⟩
  | 4 => ⟨S16x1x576, .f32⟩
  | 5 => ⟨S16x1x576, .f32⟩
  | 6 => ⟨S16x1x576, .f32⟩
  | 7 => ⟨S16x1x576, .f32⟩
  | 8 => ⟨S16x1x576, .f32⟩
  | 9 => ⟨S16x1x576, .f32⟩
  | 10 => ⟨S16x1x576, .f32⟩
  | 11 => ⟨S16x1x576, .f32⟩
  | 12 => ⟨S16x1x576, .f32⟩
  | 13 => ⟨S16x1x576, .f32⟩
  | 14 => ⟨S16x1x576, .f32⟩
  | 15 => ⟨S16x1x576, .f32⟩
  | 16 => ⟨S16x1x576, .f32⟩
  | 17 => ⟨S16x1x576, .f32⟩
  | 18 => ⟨S16x1x576, .f32⟩
  | 19 => ⟨S16x1x576, .f32⟩
  | 20 => ⟨S16x1x576, .f32⟩
  | 21 => ⟨S16x1x576, .f32⟩
  | 22 => ⟨S16x1x576, .f32⟩
  | 23 => ⟨S16x1x576, .f32⟩
  | 24 => ⟨S16x1x576, .f32⟩
  | 25 => ⟨S16x1x576, .f32⟩
  | 26 => ⟨S16x1x576, .f32⟩
  | 27 => ⟨S16x16x576, .f32⟩
  | 28 => ⟨S16x16x576, .f32⟩
  | 29 => ⟨S16x16x576, .f32⟩
  | 30 => ⟨S16x16x576, .f32⟩
  | 31 => ⟨S16x64x576, .f32⟩
  | 32 => ⟨S65536x1024, .bf16⟩
  | _ => ⟨S65536x4096, .bf16⟩

abbrev hbmTy (i : Nat) : BufTy := match i / 128 with
  | 0 => hbmTy0_0 i
  | 1 => hbmTy0_1 i
  | _ => ⟨S65536x4096, .bf16⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S16x64x576, .f32⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1024x1024, .bf16⟩
  | _, _ => ⟨S65536x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v3 : Ref sig .tc := ⟨.hbm, 14, rfl⟩
abbrev main_c_2 : Ref sig .tc := ⟨.hbm, 15, rfl⟩
abbrev main_v4 : Ref sig .tc := ⟨.hbm, 16, rfl⟩
abbrev main_v5 : Ref sig .tc := ⟨.hbm, 17, rfl⟩
abbrev main_c_3 : Ref sig .tc := ⟨.hbm, 18, rfl⟩
abbrev main_v6 : Ref sig .tc := ⟨.hbm, 19, rfl⟩
abbrev main_v7 : Ref sig .tc := ⟨.hbm, 20, rfl⟩
abbrev main_c_4 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v20 : BitVec 1 := Scalar.cmpi .eq arg1 c0_i32
  let v24 : BitVec 32 := Scalar.extui v20
  let c0_i32_14 : BitVec 32 := 0#32
  let v25 : BitVec 1 := Scalar.cmpi .ne v24 c0_i32_14
  v25

@[reducible] def k0_t1_loop : Scf.Loop 32 :=
  let c0_i32_16 : BitVec 32 := 0#32
  let c8_i32 : BitVec 32 := 8#32
  let v29 : BitVec 32 := Scalar.addi c0_i32_16 c8_i32
  let c1_i32 : BitVec 32 := 1#32
  ⟨c0_i32_16, v29, c1_i32⟩
def k0_mult1 (k0_t1 : Fin k0_t1_loop.trips) : BitVec 32 :=
  let c0_i32_16 : BitVec 32 := 0#32
  let c1_i32 : BitVec 32 := 1#32
  let arg11 : BitVec 32 := Scf.iv c0_i32_16 c1_i32 k0_t1
  let c64_i32_18 : BitVec 32 := 64#32
  let v30 : BitVec 32 := Scalar.muli arg11 c64_i32_18
  v30
def k0_off1 (k0_t1 : Fin k0_t1_loop.trips) : Fin 2 → Nat :=
  let c0_i32_16 : BitVec 32 := 0#32
  let c1_i32 : BitVec 32 := 1#32
  let arg11 : BitVec 32 := Scf.iv c0_i32_16 c1_i32 k0_t1
  let c64_i32_18 : BitVec 32 := 64#32
  let v30 : BitVec 32 := Scalar.muli arg11 c64_i32_18
  let v31 : BitVec 32 := v30
  let v32 : Index := Scalar.indexCast v31
  let c0_19 : Index := 0#32
  ![v32.toNat, 0]
def k0_off2 (k0_t1 : Fin k0_t1_loop.trips) : Fin 2 → Nat :=
  let c0_i32_16 : BitVec 32 := 0#32
  let c1_i32 : BitVec 32 := 1#32
  let arg11 : BitVec 32 := Scf.iv c0_i32_16 c1_i32 k0_t1
  let c64_i32_18 : BitVec 32 := 64#32
  let v30 : BitVec 32 := Scalar.muli arg11 c64_i32_18
  let v31 : BitVec 32 := v30
  let v36 : Index := Scalar.indexCast v31
  let c0_20 : Index := 0#32
  ![v36.toNat, 0]
def k0_cond2 (i : grid0.Coords) : BitVec 1 :=
  let arg1 : BitVec 32 := BitVec.ofNat 32 (i 1).val
  let c0_i32 : BitVec 32 := 0#32
  let v20 : BitVec 1 := Scalar.cmpi .eq arg1 c0_i32
  let v_true : BitVec 1 := 1#1
  let v26 : BitVec 1 := Scalar.xori v20 v_true
  let v27 : BitVec 32 := Scalar.extui v26
  let c0_i32_15 : BitVec 32 := 0#32
  let v28 : BitVec 1 := Scalar.cmpi .ne v27 c0_i32_15
  v28

@[reducible] def k0_t2_loop : Scf.Loop 32 :=
  let c0_i32_16 : BitVec 32 := 0#32
  let c8_i32 : BitVec 32 := 8#32
  let v29 : BitVec 32 := Scalar.addi c0_i32_16 c8_i32
  let c1_i32 : BitVec 32 := 1#32
  ⟨c0_i32_16, v29, c1_i32⟩
def k0_mult2 (k0_t2 : Fin k0_t2_loop.trips) : BitVec 32 :=
  let c0_i32_16 : BitVec 32 := 0#32
  let c1_i32 : BitVec 32 := 1#32
  let arg11 : BitVec 32 := Scf.iv c0_i32_16 c1_i32 k0_t2
  let c64_i32_18 : BitVec 32 := 64#32
  let v30 : BitVec 32 := Scalar.muli arg11 c64_i32_18
  v30
def k0_off3 (k0_t2 : Fin k0_t2_loop.trips) : Fin 2 → Nat :=
  let c0_i32_16 : BitVec 32 := 0#32
  let c1_i32 : BitVec 32 := 1#32
  let arg11 : BitVec 32 := Scf.iv c0_i32_16 c1_i32 k0_t2
  let c64_i32_18 : BitVec 32 := 64#32
  let v30 : BitVec 32 := Scalar.muli arg11 c64_i32_18
  let v31 : BitVec 32 := v30
  let v32 : Index := Scalar.indexCast v31
  let c0_19 : Index := 0#32
  ![v32.toNat, 0]
def k0_off4 (k0_t2 : Fin k0_t2_loop.trips) : Fin 2 → Nat :=
  let c0_i32_16 : BitVec 32 := 0#32
  let c1_i32 : BitVec 32 := 1#32
  let arg11 : BitVec 32 := Scf.iv c0_i32_16 c1_i32 k0_t2
  let c64_i32_18 : BitVec 32 := 64#32
  let v30 : BitVec 32 := Scalar.muli arg11 c64_i32_18
  let v31 : BitVec 32 := v30
  let v36 : Index := Scalar.indexCast v31
  let c0_20 : Index := 0#32
  ![v36.toNat, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c1_i32_0 : BitVec 32 := 1#32
  let c0_i32_1 : BitVec 32 := 0#32
  ![v3.toNat, c1_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S16x64x576 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S65536x4096 : Shape := ⟨2, ![65536, 4096]⟩
abbrev S65536x3072 : Shape := ⟨2, ![65536, 3072]⟩
abbrev S16x257 : Shape := ⟨2, ![16, 257]⟩
abbrev S65536x1024 : Shape := ⟨2, ![65536, 1024]⟩
abbrev S16x64x64x16x64 : Shape := ⟨5, ![16, 64, 64, 16, 64]⟩
abbrev S16x4096x16x64 : Shape := ⟨4, ![16, 4096, 16, 64]⟩
abbrev S_ : Shape := ⟨0, ![]⟩
abbrev S16x4608x16x64 : Shape := ⟨4, ![16, 4608, 16, 64]⟩
abbrev S576 : Shape := ⟨1, ![576]⟩
abbrev S639 : Shape := ⟨1, ![639]⟩
abbrev S639x1 : Shape := ⟨2, ![639, 1]⟩
abbrev S16x639 : Shape := ⟨2, ![16, 639]⟩
abbrev S16x576 : Shape := ⟨2, ![16, 576]⟩
abbrev S16x1x576 : Shape := ⟨3, ![16, 1, 576]⟩
abbrev S16x16x576 : Shape := ⟨3, ![16, 16, 576]⟩
abbrev S16x64x576 : Shape := ⟨3, ![16, 64, 576]⟩
abbrev S64 : Shape := ⟨1, ![64]⟩
abbrev S64x1 : Shape := ⟨2, ![64, 1]⟩
abbrev S1x576 : Shape := ⟨2, ![1, 576]⟩
abbrev S64x576 : Shape := ⟨2, ![64, 576]⟩
abbrev S64x576x1 : Shape := ⟨3, ![64, 576, 1]⟩
abbrev S16x64x576x16x64 : Shape := ⟨5, ![16, 64, 576, 16, 64]⟩
abbrev S16x64x16x64x576 : Shape := ⟨5, ![16, 64, 16, 64, 576]⟩
abbrev S1x1x16x64x576 : Shape := ⟨5, ![1, 1, 16, 64, 576]⟩
abbrev S1x64x1x1x576 : Shape := ⟨5, ![1, 64, 1, 1, 576]⟩
abbrev S16x64x16x64 : Shape := ⟨4, ![16, 64, 16, 64]⟩
abbrev S16x64x16x64x1 : Shape := ⟨5, ![16, 64, 16, 64, 1]⟩
abbrev S16x64x16x64x64 : Shape := ⟨5, ![16, 64, 16, 64, 64]⟩

abbrev nBuf : Space → Nat
  | .hbm => 224
  | .vmem => 0
  | .smem => 0
  | _ => 0

abbrev hbmTy0_0 (i : Nat) : BufTy := match i % 128 with
  | 0 => ⟨S65536x4096, .bf16⟩
  | 1 => ⟨S65536x3072, .f32⟩
  | 2 => ⟨S16x257, .f32⟩
  | 3 => ⟨S65536x1024, .bf16⟩
  | 4 => ⟨S65536x1024, .f32⟩
  | 5 => ⟨S16x64x64x16x64, .f32⟩
  | 6 => ⟨S65536x1024, .f32⟩
  | 7 => ⟨S16x4096x16x64, .f32⟩
  | 8 => ⟨S65536x1024, .f32⟩
  | 9 => ⟨S16x4096x16x64, .f32⟩
  | 10 => ⟨S_, .i32⟩
  | 11 => ⟨S_, .f32⟩
  | 12 => ⟨S16x4608x16x64, .f32⟩
  | 13 => ⟨S_, .i32⟩
  | 14 => ⟨S_, .f32⟩
  | 15 => ⟨S16x4608x16x64, .f32⟩
  | 16 => ⟨S576, .i32⟩
  | 17 => ⟨S639, .i32⟩
  | 18 => ⟨S_, .i32⟩
  | 19 => ⟨S639, .i32⟩
  | 20 => ⟨S639, .i32⟩
  | 21 => ⟨S_, .i32⟩
  | 22 => ⟨S_, .i32⟩
  | 23 => ⟨S_, .i32⟩
  | 24 => ⟨S639, .i32⟩
  | 25 => ⟨S639, .i32⟩
  | 26 => ⟨S_, .i32⟩
  | 27 => ⟨S639, .i32⟩
  | 28 => ⟨S639, .i32⟩
  | 29 => ⟨S_, .i32⟩
  | 30 => ⟨S639, .i32⟩
  | 31 => ⟨S639, .i32⟩
  | 32 => ⟨S_, .i32⟩
  | 33 => ⟨S639, .i32⟩
  | 34 => ⟨S639, .i1⟩
  | 35 => ⟨S_, .i32⟩
  | 36 => ⟨S639, .i32⟩
  | 37 => ⟨S639, .i32⟩
  | 38 => ⟨S639, .i32⟩
  | 39 => ⟨S639x1, .i32⟩
  | 40 => ⟨S16x639, .f32⟩
  | 41 => ⟨S16x576, .f32⟩
  | 42 => ⟨S16x576, .f32⟩
  | 43 => ⟨S16x576, .f32⟩
  | 44 => ⟨S16x576, .f32⟩
  | 45 => ⟨S16x576, .f32⟩
  | 46 => ⟨S16x576, .f32⟩
  | 47 => ⟨S16x576, .f32⟩
  | 48 => ⟨S16x576, .f32⟩
  | 49 => ⟨S16x576, .f32⟩
  | 50 => ⟨S16x576, .f32⟩
  | 51 => ⟨S16x576, .f32⟩
  | 52 => ⟨S16x576, .f32⟩
  | 53 => ⟨S16x576, .f32⟩
  | 54 => ⟨S16x576, .f32⟩
  | 55 => ⟨S16x576, .f32⟩
  | 56 => ⟨S16x576, .f32⟩
  | 57 => ⟨S16x576, .f32⟩
  | 58 => ⟨S16x576, .f32⟩
  | 59 => ⟨S16x576, .f32⟩
  | 60 => ⟨S16x576, .f32⟩
  | 61 => ⟨S16x576, .f32⟩
  | 62 => ⟨S16x576, .f32⟩
  | 63 => ⟨S16x576, .f32⟩
  | 64 => ⟨S16x576, .f32⟩
  | 65 => ⟨S16x576, .f32⟩
  | 66 => ⟨S16x576, .f32⟩
  | 67 => ⟨S16x576, .f32⟩
  | 68 => ⟨S16x576, .f32⟩
  | 69 => ⟨S16x576, .f32⟩
  | 70 => ⟨S16x576, .f32⟩
  | 71 => ⟨S16x576, .f32⟩
  | 72 => ⟨S16x576, .f32⟩
  | 73 => ⟨S16x576, .f32⟩
  | 74 => ⟨S16x576, .f32⟩
  | 75 => ⟨S16x576, .f32⟩
  | 76 => ⟨S16x576, .f32⟩
  | 77 => ⟨S16x576, .f32⟩
  | 78 => ⟨S16x576, .f32⟩
  | 79 => ⟨S16x576, .f32⟩
  | 80 => ⟨S16x576, .f32⟩
  | 81 => ⟨S16x576, .f32⟩
  | 82 => ⟨S16x576, .f32⟩
  | 83 => ⟨S16x576, .f32⟩
  | 84 => ⟨S16x576, .f32⟩
  | 85 => ⟨S16x576, .f32⟩
  | 86 => ⟨S16x576, .f32⟩
  | 87 => ⟨S16x576, .f32⟩
  | 88 => ⟨S16x576, .f32⟩
  | 89 => ⟨S16x576, .f32⟩
  | 90 => ⟨S16x576, .f32⟩
  | 91 => ⟨S16x576, .f32⟩
  | 92 => ⟨S16x576, .f32⟩
  | 93 => ⟨S16x576, .f32⟩
  | 94 => ⟨S16x576, .f32⟩
  | 95 => ⟨S16x576, .f32⟩
  | 96 => ⟨S16x576, .f32⟩
  | 97 => ⟨S16x576, .f32⟩
  | 98 => ⟨S16x576, .f32⟩
  | 99 => ⟨S16x576, .f32⟩
  | 100 => ⟨S16x576, .f32⟩
  | 101 => ⟨S16x576, .f32⟩
  | 102 => ⟨S16x576, .f32⟩
  | 103 => ⟨S16x576, .f32⟩
  | 104 => ⟨S16x576, .f32⟩
  | 105 => ⟨S16x1x576, .f32⟩
  | 106 => ⟨S16x1x576, .f32⟩
  | 107 => ⟨S16x1x576, .f32⟩
  | 108 => ⟨S16x1x576, .f32⟩
  | 109 => ⟨S16x1x576, .f32⟩
  | 110 => ⟨S16x1x576, .f32⟩
  | 111 => ⟨S16x1x576, .f32⟩
  | 112 => ⟨S16x1x576, .f32⟩
  | 113 => ⟨S16x1x576, .f32⟩
  | 114 => ⟨S16x1x576, .f32⟩
  | 115 => ⟨S16x1x576, .f32⟩
  | 116 => ⟨S16x1x576, .f32⟩
  | 117 => ⟨S16x1x576, .f32⟩
  | 118 => ⟨S16x1x576, .f32⟩
  | 119 => ⟨S16x1x576, .f32⟩
  | 120 => ⟨S16x1x576, .f32⟩
  | 121 => ⟨S16x1x576, .f32⟩
  | 122 => ⟨S16x1x576, .f32⟩
  | 123 => ⟨S16x1x576, .f32⟩
  | 124 => ⟨S16x1x576, .f32⟩
  | 125 => ⟨S16x1x576, .f32⟩
  | 126 => ⟨S16x1x576, .f32⟩
  | 127 => ⟨S16x1x576, .f32⟩
  | _ => ⟨S65536x4096, .bf16⟩

abbrev hbmTy0_1 (i : Nat) : BufTy := match i % 128 with
  | 0 => ⟨S16x1x576, .f32⟩
  | 1 => ⟨S16x1x576, .f32⟩
  | 2 => ⟨S16x1x576, .f32⟩
  | 3 => ⟨S16x1x576, .f32⟩
  | 4 => ⟨S16x1x576, .f32⟩
  | 5 => ⟨S16x1x576, .f32⟩
  | 6 => ⟨S16x1x576, .f32⟩
  | 7 => ⟨S16x1x576, .f32⟩
  | 8 => ⟨S16x1x576, .f32⟩
  | 9 => ⟨S16x1x576, .f32⟩
  | 10 => ⟨S16x1x576, .f32⟩
  | 11 => ⟨S16x1x576, .f32⟩
  | 12 => ⟨S16x1x576, .f32⟩
  | 13 => ⟨S16x1x576, .f32⟩
  | 14 => ⟨S16x1x576, .f32⟩
  | 15 => ⟨S16x1x576, .f32⟩
  | 16 => ⟨S16x1x576, .f32⟩
  | 17 => ⟨S16x1x576, .f32⟩
  | 18 => ⟨S16x1x576, .f32⟩
  | 19 => ⟨S16x1x576, .f32⟩
  | 20 => ⟨S16x1x576, .f32⟩
  | 21 => ⟨S16x1x576, .f32⟩
  | 22 => ⟨S16x1x576, .f32⟩
  | 23 => ⟨S16x1x576, .f32⟩
  | 24 => ⟨S16x1x576, .f32⟩
  | 25 => ⟨S16x1x576, .f32⟩
  | 26 => ⟨S16x1x576, .f32⟩
  | 27 => ⟨S16x1x576, .f32⟩
  | 28 => ⟨S16x1x576, .f32⟩
  | 29 => ⟨S16x1x576, .f32⟩
  | 30 => ⟨S16x1x576, .f32⟩
  | 31 => ⟨S16x1x576, .f32⟩
  | 32 => ⟨S16x1x576, .f32⟩
  | 33 => ⟨S16x1x576, .f32⟩
  | 34 => ⟨S16x1x576, .f32⟩
  | 35 => ⟨S16x1x576, .f32⟩
  | 36 => ⟨S16x1x576, .f32⟩
  | 37 => ⟨S16x1x576, .f32⟩
  | 38 => ⟨S16x1x576, .f32⟩
  | 39 => ⟨S16x1x576, .f32⟩
  | 40 => ⟨S16x1x576, .f32⟩
  | 41 => ⟨S16x16x576, .f32⟩
  | 42 => ⟨S16x16x576, .f32⟩
  | 43 => ⟨S16x16x576, .f32⟩
  | 44 => ⟨S16x16x576, .f32⟩
  | 45 => ⟨S16x64x576, .f32⟩
  | 46 => ⟨S64, .i32⟩
  | 47 => ⟨S64x1, .i32⟩
  | 48 => ⟨S_, .i32⟩
  | 49 => ⟨S64x1, .i32⟩
  | 50 => ⟨S64x1, .i32⟩
  | 51 => ⟨S1x576, .i32⟩
  | 52 => ⟨S64x576, .i32⟩
  | 53 => ⟨S64x576, .i32⟩
  | 54 => ⟨S64x576, .i32⟩
  | 55 => ⟨S64x576x1, .i32⟩
  | 56 => ⟨S16x64x576x16x64, .f32⟩
  | 57 => ⟨S64x576x1, .i32⟩
  | 58 => ⟨S16x64x576x16x64, .f32⟩
  | 59 => ⟨S_, .i32⟩
  | 60 => ⟨S64x576, .i32⟩
  | 61 => ⟨S64x576, .i32⟩
  | 62 => ⟨S_, .i32⟩
  | 63 => ⟨S64x576, .i32⟩
  | 64 => ⟨S64x576, .i1⟩
  | 65 => ⟨S16x64x16x64x576, .f32⟩
  | 66 => ⟨S_, .f32⟩
  | 67 => ⟨S16x64x16x64x576, .f32⟩
  | 68 => ⟨S16x64x16x64x576, .f32⟩
  | 69 => ⟨S1x1x16x64x576, .f32⟩
  | 70 => ⟨S16x64x16x64x576, .f32⟩
  | 71 => ⟨S16x64x16x64x576, .f32⟩
  | 72 => ⟨S1x64x1x1x576, .i1⟩
  | 73 => ⟨S_, .f32⟩
  | 74 => ⟨S_, .f32⟩
  | 75 => ⟨S16x64x16x64x576, .i1⟩
  | 76 => ⟨S16x64x16x64x576, .f32⟩
  | 77 => ⟨S16x64x16x64x576, .f32⟩
  | 78 => ⟨S_, .f32⟩
  | 79 => ⟨S16x64x16x64, .f32⟩
  | 80 => ⟨S_, .f32⟩
  | 81 => ⟨S16x64x16x64, .f32⟩
  | 82 => ⟨S16x64x16x64, .f32⟩
  | 83 => ⟨S16x64x16x64x1, .f32⟩
  | 84 => ⟨S16x64x16x64x576, .f32⟩
  | 85 => ⟨S16x64x16x64x576, .f32⟩
  | 86 => ⟨S16x64x16x64x576, .f32⟩
  | 87 => ⟨S_, .f32⟩
  | 88 => ⟨S16x64x16x64, .f32⟩
  | 89 => ⟨S16x64x16x64x1, .f32⟩
  | 90 => ⟨S16x64x16x64x576, .f32⟩
  | 91 => ⟨S16x64x16x64x576, .f32⟩
  | 92 => ⟨S16x64x16x64x64, .f32⟩
  | 93 => ⟨S16x64x64x16x64, .f32⟩
  | 94 => ⟨S65536x1024, .f32⟩
  | 95 => ⟨S65536x1024, .bf16⟩
  | _ => ⟨S65536x4096, .bf16⟩

abbrev hbmTy (i : Nat) : BufTy := match i / 128 with
  | 0 => hbmTy0_0 i
  | 1 => hbmTy0_1 i
  | _ => ⟨S65536x4096, .bf16⟩

abbrev bufTy : (tb : Table) → Fin (tcTables nBuf tb) → BufTy
  | .hbm, ⟨i, _⟩ => hbmTy i
  | _, _ => ⟨S65536x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_c_0 : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_c_3 : Ref sig .tc := ⟨.hbm, 22, rfl⟩
abbrev main_call2_v0 : Ref sig .tc := ⟨.hbm, 23, rfl⟩
abbrev main_call2_v1 : Ref sig .tc := ⟨.hbm, 24, rfl⟩
abbrev main_call2_v2 : Ref sig .tc := ⟨.hbm, 25, rfl⟩
abbrev main_call2_v3 : Ref sig .tc := ⟨.hbm, 26, rfl⟩
abbrev main_call2_v4 : Ref sig .tc := ⟨.hbm, 27, rfl⟩
abbrev main_v13 : Ref sig .tc := ⟨.hbm, 28, rfl⟩
abbrev main_c_4 : Ref sig .tc := ⟨.hbm, 29, rfl⟩
abbrev main_v14 : Ref sig .tc := ⟨.hbm, 30, rfl⟩
abbrev main_v15 : Ref sig .tc := ⟨.hbm, 31, rfl⟩
abbrev main_c_5 : Ref sig .tc := ⟨.hbm, 32, rfl⟩
abbrev main_v16 : Ref sig .tc := ⟨.hbm, 33, rfl⟩
abbrev main_v17 : Ref sig .tc := ⟨.hbm, 34, rfl⟩
abbrev main_c_6 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_c_7 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_call3_v0 : Ref sig .tc := ⟨.hbm, 183, rfl⟩
abbrev main_v164 : Ref sig .tc := ⟨.hbm, 184, rfl⟩
abbrev main_call4_v0 : Ref sig .tc := ⟨.hbm, 185, rfl⟩
abbrev main_v165 : Ref sig .tc := ⟨.hbm, 186, rfl⟩
abbrev main_c_8 : Ref sig .tc := ⟨.hbm, 187, rfl⟩
abbrev main_v166 : Ref sig .tc := ⟨.hbm, 188, rfl⟩
abbrev main_v167 : Ref sig .tc := ⟨.hbm, 189, rfl⟩
abbrev main_c_9 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_cst : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_cst_10 : Ref sig .tc := ⟨.hbm, 201, rfl⟩
abbrev main_call5_v0 : Ref sig .tc := ⟨.hbm, 202, rfl⟩
abbrev main_call5_v1 : Ref sig .tc := ⟨.hbm, 203, rfl⟩
abbrev main_call5_v2 : Ref sig .tc := ⟨.hbm, 204, rfl⟩
abbrev main_v177 : Ref sig .tc := ⟨.hbm, 205, rfl⟩
abbrev main_cst_11 : Ref sig .tc := ⟨.hbm, 206, rfl⟩
abbrev main_v178 : Ref sig .tc := ⟨.hbm, 207, rfl⟩
abbrev main_cst_12 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_cst_13 : Ref sig .tc := ⟨.hbm, 215, rfl⟩
abbrev main_v185 : Ref sig .tc := ⟨.hbm, 216, rfl⟩
abbrev main_v186 : Ref sig .tc := ⟨.hbm, 217, rfl⟩
abbrev main_v187 : Ref sig .tc := ⟨.hbm, 218, rfl⟩
abbrev main_v188 : Ref sig .tc := ⟨.hbm, 219, rfl⟩
abbrev main_v189 : Ref sig .tc := ⟨.hbm, 220, rfl⟩
abbrev main_v190 : Ref sig .tc := ⟨.hbm, 221, rfl⟩
abbrev main_v191 : Ref sig .tc := ⟨.hbm, 222, rfl⟩
abbrev main_v192 : Ref sig .tc := ⟨.hbm, 223, rfl⟩

abbrev nD : Nat := 1
abbrev τ : Topo := Topo.v7x

variable {F : FTy → Type} [FloatOps F]

def κ : String → Option EReal := fun
  | "mask" => some ⊥
  | _ => none
-- ==== Kernel3.lean ====
abbrev S16x4096x1024 : Shape := ⟨3, ![16, 4096, 1024]⟩
abbrev S1024 : Shape := ⟨1, ![1024]⟩
abbrev S1024x7168 : Shape := ⟨2, ![1024, 7168]⟩
abbrev S65536x1024 : Shape := ⟨2, ![65536, 1024]⟩
abbrev S1x1024 : Shape := ⟨2, ![1, 1024]⟩
abbrev S65536x3072 : Shape := ⟨2, ![65536, 3072]⟩
abbrev S65536x4096 : Shape := ⟨2, ![65536, 4096]⟩
abbrev S256x1024 : Shape := ⟨2, ![256, 1024]⟩
abbrev S256x3072 : Shape := ⟨2, ![256, 3072]⟩
abbrev S256x4096 : Shape := ⟨2, ![256, 4096]⟩
abbrev S256 : Shape := ⟨1, ![256]⟩
abbrev S256x1 : Shape := ⟨2, ![256, 1]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x7168, .f32⟩
  | .hbm, ⟨3, _⟩ => ⟨S65536x1024, .f32⟩
  | .hbm, ⟨4, _⟩ => ⟨S1x1024, .f32⟩
  | .hbm, ⟨5, _⟩ => ⟨S1024x7168, .bf16⟩
  | .hbm, ⟨6, _⟩ => ⟨S65536x3072, .f32⟩
  | .hbm, ⟨7, _⟩ => ⟨S65536x4096, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x7168, .bf16⟩
  | .local _ .vmem, ⟨4, _⟩ => ⟨S256x3072, .f32⟩
  | .local _ .vmem, ⟨5, _⟩ => ⟨S256x3072, .f32⟩
  | .local _ .vmem, ⟨6, _⟩ => ⟨S256x4096, .bf16⟩
  | .local _ .vmem, ⟨7, _⟩ => ⟨S256x4096, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S16x4096x1024 : Shape := ⟨3, ![16, 4096, 1024]⟩
abbrev S1024 : Shape := ⟨1, ![1024]⟩
abbrev S1024x7168 : Shape := ⟨2, ![1024, 7168]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x7168 : Shape := ⟨3, ![16, 4096, 7168]⟩
abbrev S65536x7168 : Shape := ⟨2, ![65536, 7168]⟩
abbrev S65536x3072 : Shape := ⟨2, ![65536, 3072]⟩
abbrev S65536x1024 : Shape := ⟨2, ![65536, 1024]⟩
abbrev S65536x4096 : Shape := ⟨2, ![65536, 4096]⟩

abbrev nBuf : Space → Nat
  | .hbm => 26
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x7168, .f32⟩
  | .hbm, ⟨3, _⟩ => ⟨S16x4096x1024, .f32⟩
  | .hbm, ⟨4, _⟩ => ⟨S_, .f32⟩
  | .hbm, ⟨5, _⟩ => ⟨S16x4096, .f32⟩
  | .hbm, ⟨6, _⟩ => ⟨S16x4096x1, .f32⟩
  | .hbm, ⟨7, _⟩ => ⟨S_, .f32⟩
  | .hbm, ⟨8, _⟩ => ⟨S16x4096x1, .f32⟩
  | .hbm, ⟨9, _⟩ => ⟨S16x4096x1, .f32⟩
  | .hbm, ⟨10, _⟩ => ⟨S_, .f32⟩
  | .hbm, ⟨11, _⟩ => ⟨S16x4096x1, .f32⟩
  | .hbm, ⟨12, _⟩ => ⟨S16x4096x1, .f32⟩
  | .hbm, ⟨13, _⟩ => ⟨S16x4096x1, .f32⟩
  | .hbm, ⟨14, _⟩ => ⟨S16x4096x1024, .f32⟩
  | .hbm, ⟨15, _⟩ => ⟨S16x4096x1024, .f32⟩
  | .hbm, ⟨16, _⟩ => ⟨S1x1x1024, .f32⟩
  | .hbm, ⟨17, _⟩ => ⟨S16x4096x1024, .f32⟩
  | .hbm, ⟨18, _⟩ => ⟨S16x4096x1024, .f32⟩
  | .hbm, ⟨19, _⟩ => ⟨S16x4096x7168, .f32⟩
  | .hbm, ⟨20, _⟩ => ⟨S65536x7168, .f32⟩
  | .hbm, ⟨21, _⟩ => ⟨S65536x3072, .f32⟩
  | .hbm, ⟨22, _⟩ => ⟨S65536x1024, .f32⟩
  | .hbm, ⟨23, _⟩ => ⟨S65536x3072, .f32⟩
  | .hbm, ⟨24, _⟩ => ⟨S65536x4096, .f32⟩
  | .hbm, ⟨25, _⟩ => ⟨S65536x4096, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel4.lean ====
abbrev S16x4096x1024 : Shape := ⟨3, ![16, 4096, 1024]⟩
abbrev S65536x1024 : Shape := ⟨2, ![65536, 1024]⟩
abbrev S65536x4096 : Shape := ⟨2, ![65536, 4096]⟩
abbrev S1024x1024 : Shape := ⟨2, ![1024, 1024]⟩
abbrev S1024 : Shape := ⟨1, ![1024]⟩
abbrev S1024x2048 : Shape := ⟨2, ![1024, 2048]⟩
abbrev S1x1024 : Shape := ⟨2, ![1, 1024]⟩
abbrev S65536x8x128 : Shape := ⟨3, ![65536, 8, 128]⟩
abbrev S65536x2048 : Shape := ⟨2, ![65536, 2048]⟩
abbrev S512x1024 : Shape := ⟨2, ![512, 1024]⟩
abbrev S512x8x128 : Shape := ⟨3, ![512, 8, 128]⟩
abbrev S512x2048 : Shape := ⟨2, ![512, 2048]⟩
abbrev S512 : Shape := ⟨1, ![512]⟩
abbrev S512x1 : Shape := ⟨2, ![512, 1]⟩

abbrev nBuf : Space → Nat
  | .hbm => 18
  | .vmem => 21
  | .smem => 0
  | _ => 0

abbrev bufTy : (tb : Table) → Fin (tcTables nBuf tb) → BufTy
  | .hbm, ⟨0, _⟩ => ⟨S16x4096x1024, .f32⟩
  | .hbm, ⟨1, _⟩ => ⟨S65536x1024, .bf16⟩
  | .hbm, ⟨2, _⟩ => ⟨S65536x1024, .bf16⟩
  | .hbm, ⟨3, _⟩ => ⟨S65536x4096, .bf16⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x2048, .f32⟩
  | .hbm, ⟨9, _⟩ => ⟨S65536x1024, .f32⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1x1024, .f32⟩
  | .hbm, ⟨14, _⟩ => ⟨S1024x2048, .bf16⟩
  | .hbm, ⟨15, _⟩ => ⟨S65536x1024, .f32⟩
  | .hbm, ⟨16, _⟩ => ⟨S65536x8x128, .f32⟩
  | .hbm, ⟨17, _⟩ => ⟨S65536x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x2048, .bf16⟩
  | .local _ .vmem, ⟨15, _⟩ => ⟨S512x1024, .f32⟩
  | .local _ .vmem, ⟨16, _⟩ => ⟨S512x1024, .f32⟩
  | .local _ .vmem, ⟨17, _⟩ => ⟨S512x8x128, .f32⟩
  | .local _ .vmem, ⟨18, _⟩ => ⟨S512x8x128, .f32⟩
  | .local _ .vmem, ⟨19, _⟩ => ⟨S512x2048, .bf16⟩
  | .local _ .vmem, ⟨20, _⟩ => ⟨S512x2048, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S16x4096x1024 : Shape := ⟨3, ![16, 4096, 1024]⟩
abbrev S65536x1024 : Shape := ⟨2, ![65536, 1024]⟩
abbrev S65536x4096 : Shape := ⟨2, ![65536, 4096]⟩
abbrev S1024x1024 : Shape := ⟨2, ![1024, 1024]⟩
abbrev S1024 : Shape := ⟨1, ![1024]⟩
abbrev S1024x2048 : Shape := ⟨2, ![1024, 2048]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x8x128 : Shape := ⟨3, ![65536, 8, 128]⟩
abbrev S65536x2048 : Shape := ⟨2, ![65536, 2048]⟩

abbrev nBuf : Space → Nat
  | .hbm => 58
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S65536x1024, .bf16⟩
  | .hbm, ⟨2, _⟩ => ⟨S65536x1024, .bf16⟩
  | .hbm, ⟨3, _⟩ => ⟨S65536x4096, .bf16⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x2048, .f32⟩
  | .hbm, ⟨9, _⟩ => ⟨S65536x1024, .f32⟩
  | .hbm, ⟨10, _⟩ => ⟨S65536x1024, .bf16⟩
  | .hbm, ⟨11, _⟩ => ⟨S65536x1024, .f32⟩
  | .hbm, ⟨12, _⟩ => ⟨S65536x1024, .bf16⟩
  | .hbm, ⟨13, _⟩ => ⟨S65536x1024, .f32⟩
  | .hbm, ⟨14, _⟩ => ⟨S65536x1024, .f32⟩
  | .hbm, ⟨15, _⟩ => ⟨S65536x1024, .f32⟩
  | .hbm, ⟨16, _⟩ => ⟨S_, .f32⟩
  | .hbm, ⟨17, _⟩ => ⟨S65536x1024, .f32⟩
  | .hbm, ⟨18, _⟩ => ⟨S65536x1024, .f32⟩
  | .hbm, ⟨19, _⟩ => ⟨S_, .f32⟩
  | .hbm, ⟨20, _⟩ => ⟨S65536x1024, .f32⟩
  | .hbm, ⟨21, _⟩ => ⟨S65536x1024, .f32⟩
  | .hbm, ⟨22, _⟩ => ⟨S65536x1024, .f32⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S65536x1024, .f32⟩
  | .hbm, ⟨27, _⟩ => ⟨S_, .f32⟩
  | .hbm, ⟨28, _⟩ => ⟨S65536x1024, .f32⟩
  | .hbm, ⟨29, _⟩ => ⟨S65536x1024, .f32⟩
  | .hbm, ⟨30, _⟩ => ⟨S_, .f32⟩
  | .hbm, ⟨31, _⟩ => ⟨S65536x1024, .f32⟩
  | .hbm, ⟨32, _⟩ => ⟨S65536x1024, .f32⟩
  | .hbm, ⟨33, _⟩ => ⟨S65536x1024, .f32⟩
  | .hbm, ⟨34, _⟩ => ⟨S65536x1024, .f32⟩
  | .hbm, ⟨35, _⟩ => ⟨S65536x1024, .f32⟩
  | .hbm, ⟨36, _⟩ => ⟨S65536x1024, .f32⟩
  | .hbm, ⟨37, _⟩ => ⟨S65536x1024, .f32⟩
  | .hbm, ⟨38, _⟩ => ⟨S65536x1024, .f32⟩
  | .hbm, ⟨39, _⟩ => ⟨S65536x1024, .f32⟩
  | .hbm, ⟨40, _⟩ => ⟨S_, .f32⟩
  | .hbm, ⟨41, _⟩ => ⟨S65536, .f32⟩
  | .hbm, ⟨42, _⟩ => ⟨S65536x1, .f32⟩
  | .hbm, ⟨43, _⟩ => ⟨S_, .f32⟩
  | .hbm, ⟨44, _⟩ => ⟨S65536x1, .f32⟩
  | .hbm, ⟨45, _⟩ => ⟨S65536x1, .f32⟩
  | .hbm, ⟨46, _⟩ => ⟨S_, .f32⟩
  | .hbm, ⟨47, _⟩ => ⟨S65536x1, .f32⟩
  | .hbm, ⟨48, _⟩ => ⟨S65536x1, .f32⟩
  | .hbm, ⟨49, _⟩ => ⟨S65536x1, .f32⟩
  | .hbm, ⟨50, _⟩ => ⟨S65536x1024, .f32⟩
  | .hbm, ⟨51, _⟩ => ⟨S65536x1024, .f32⟩
  | .hbm, ⟨52, _⟩ => ⟨S1x1024, .f32⟩
  | .hbm, ⟨53, _⟩ => ⟨S65536x1024, .f32⟩
  | .hbm, ⟨54, _⟩ => ⟨S65536x1024, .f32⟩
  | .hbm, ⟨55, _⟩ => ⟨S65536x8x128, .f32⟩
  | .hbm, ⟨56, _⟩ => ⟨S65536x2048, .f32⟩
  | .hbm, ⟨57, _⟩ => ⟨S65536x2048, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Kernel5.lean ====
abbrev S65536x1024 : Shape := ⟨2, ![65536, 1024]⟩
abbrev S65536x8x128 : Shape := ⟨3, ![65536, 8, 128]⟩
abbrev S1024 : Shape := ⟨1, ![1024]⟩
abbrev S1x1024 : Shape := ⟨2, ![1, 1024]⟩
abbrev S512x1024 : Shape := ⟨2, ![512, 1024]⟩
abbrev S512x8x128 : Shape := ⟨3, ![512, 8, 128]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S65536x1024, .f32⟩
  | .hbm, ⟨1, _⟩ => ⟨S65536x8x128, .f32⟩
  | .hbm, ⟨2, _⟩ => ⟨S1024, .f32⟩
  | .hbm, ⟨3, _⟩ => ⟨S1x1024, .f32⟩
  | .hbm, ⟨4, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x8x128, .f32⟩
  | .local _ .vmem, ⟨3, _⟩ => ⟨S512x8x128, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S65536x1024 : Shape := ⟨2, ![65536, 1024]⟩
abbrev S65536x8x128 : Shape := ⟨3, ![65536, 8, 128]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x8x128, .f32⟩
  | .hbm, ⟨2, _⟩ => ⟨S1024, .f32⟩
  | .hbm, ⟨3, _⟩ => ⟨S65536x1024, .f32⟩
  | .hbm, ⟨4, _⟩ => ⟨S65536x1024, .f32⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S1x1024, .f32⟩
  | .hbm, ⟨19, _⟩ => ⟨S65536x1024, .f32⟩
  | .hbm, ⟨20, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Attn1.lean ====
module

public import proofs.«01_k».proof.Proof.Gen.KernelIdeal.Frame
public import Idealize.ShloMosaic.Lib.Claim
public import Idealize.ShloMosaic.Lib.Pipeline.ValueKit
public import Idealize.ShloMosaic.Lib.Pointwise

@[expose] public section

set_option maxRecDepth 16384

/-!
One chunk of 64 query rows of the band attention as a function of what the loop's trip loads: the scaled queries, the 576
keys and values of its band, and the bias of each head. The two loops of the kernel (the one that masks the keys before the
start and the one that does not) store this function of their loads.
-/

noncomputable section

namespace Cert.KernelIdeal.BandAttention

open Cert.KernelIdeal Cert.KernelIdeal.Gen Idealize.ShloMosaic Idealize.ShloMosaic.TcCoe Idealize.SL.Sem

variable {F : FTy → Type} [FloatOps F] [Named F]

/-- The queries times 1/8. -/
def scaled (q : Vec F S64x1024 .bf16) : FVec F S64x1024 .bf16 := k0_pay7 q

/-- Zero of the narrow format, as the selects write it. -/
def zero16 : F .bf16 := Scalar.truncf .bf16 bitsLt_bf16_f32 (Scalar.ofBits .f32 0x00000000#32)

/-- The scores of two heads at once, whose 64 lanes each sit side by side from column `o`: the first head's queries above the
    second's, each with the other's lanes cleared. -/
def score2 (QS : FVec F S64x1024 .bf16) (KW : Vec F S576x1024 .bf16) (o : Nat) (hq : S64x1024.Slices ![0, o] S64x128)
    (hk : S576x1024.Slices ![0, o] S576x128) : FVec F S128x576 .f32 :=
  matmul dot_S128x128_S576x128_S128x576_1_1_0_0_n_n none
    (concatenate S128x128 0 [⟨S64x128, select k0_pay5 (extractStridedSlice S64x128 ![0, o] QS hq) (broadcast S64x128 zero16)⟩,
      ⟨S64x128, select k0_pay5 (broadcast S64x128 zero16) (extractStridedSlice S64x128 ![0, o] QS hq)⟩]
      concatenates_S64x128_S64x128_S128x128_d0)
    (extractStridedSlice S576x128 ![0, o] KW hk) (constant S128x576 .f32 0x00000000#32)

/-- The scores of a head with its bias, before the mask. -/
def biased (s : FVec F S64x576 .f32) (B : Vec F S1x64x576 .f32) : FVec F S64x576 .f32 :=
  addf s (shapeCast S64x576 B shapeCasts_S1x64x576_S64x576)

/-- The exponentials of scores less their row's maximum. -/
def expo (s : FVec F S64x576 .f32) : FVec F S64x576 .f32 :=
  exp (subf s (broadcastTo S64x576 (shapeCast S64x1 (multiReduction .maximumf [1] S64 s 0xFF800000#32 reduces_S64x576_S64 (.inl rfl) rfl)
    shapeCasts_S64_S64x1) broadcasts_S64x1_S64x576))

/-- The reciprocal of a row's sum. -/
def recip (e : FVec F S64x576 .f32) : FVec F S64x1 .f32 :=
  divf (broadcast S64x1 (Scalar.ofBits .f32 0x3F800000#32))
    (shapeCast S64x1 (multiReduction .add [1] S64 e 0x00000000#32 reduces_S64x576_S64 (.inl rfl) rfl) shapeCasts_S64_S64x1)

/-- Two heads' outputs side by side from their exponentials. -/
def mix2 (VW : Vec F S576x1024 .bf16) (o : Nat) (hv : S576x1024.Slices ![0, o] S576x128) (e0 e1 : FVec F S64x576 .f32) :
    FVec F S64x128 .f32 :=
  select k0_pay5
    (mulf (extractStridedSlice S64x128 ![0, 0] (matmul dot_S128x576_S576x128_S128x128_1_0_0_1_n_n none
      (concatenate S128x576 0 [⟨S64x576, truncf .bf16 e0 bitsLt_bf16_f32⟩, ⟨S64x576, truncf .bf16 e1 bitsLt_bf16_f32⟩] concatenates_S64x576_S64x576_S128x576_d0)
      (extractStridedSlice S576x128 ![0, o] VW hv) (constant S128x128 .f32 0x00000000#32)) slices_S128x128_o0_0_S64x128)
      (broadcastTo S64x128 (recip e0) broadcasts_S64x1_S64x128))
    (mulf (extractStridedSlice S64x128 ![64, 0] (matmul dot_S128x576_S576x128_S128x128_1_0_0_1_n_n none
      (concatenate S128x576 0 [⟨S64x576, truncf .bf16 e0 bitsLt_bf16_f32⟩, ⟨S64x576, truncf .bf16 e1 bitsLt_bf16_f32⟩] concatenates_S64x576_S64x576_S128x576_d0)
      (extractStridedSlice S576x128 ![0, o] VW hv) (constant S128x128 .f32 0x00000000#32)) slices_S128x128_o64_0_S64x128)
      (broadcastTo S64x128 (recip e1) broadcasts_S64x1_S64x128))

/-- Two heads' outputs from the loads; `g` masks the scores. -/
def heads2 (g : FVec F S64x576 .f32 → FVec F S64x576 .f32) (QS : FVec F S64x1024 .bf16) (KW VW : Vec F S576x1024 .bf16)
    (B0 B1 : Vec F S1x64x576 .f32) (o : Nat) (hq : S64x1024.Slices ![0, o] S64x128) (hk : S576x1024.Slices ![0, o] S576x128) :
    FVec F S64x128 .f32 :=
  mix2 VW o hk
    (expo (g (biased (extractStridedSlice S64x576 ![0, 0] (score2 QS KW o hq hk) slices_S128x576_o0_0_S64x576) B0)))
    (expo (g (biased (extractStridedSlice S64x576 ![64, 0] (score2 QS KW o hq hk) slices_S128x576_o64_0_S64x576) B1)))

/-- The chunk's output: the eight pairs of heads side by side. -/
def chunk (g : FVec F S64x576 .f32 → FVec F S64x576 .f32) (q : Vec F S64x1024 .bf16) (KW VW : Vec F S576x1024 .bf16)
    (B0 B1 B2 B3 B4 B5 B6 B7 B8 B9 B10 B11 B12 B13 B14 B15 : Vec F S1x64x576 .f32) : FVec F S64x1024 .bf16 :=
  truncf .bf16 (concatenate S64x1024 1 [⟨S64x128, heads2 g (scaled q) KW VW B0 B1 0 slices_S64x1024_o0_0_S64x128 slices_S576x1024_o0_0_S576x128⟩,
    ⟨S64x128, heads2 g (scaled q) KW VW B2 B3 128 slices_S64x1024_o0_128_S64x128 slices_S576x1024_o0_128_S576x128⟩,
    ⟨S64x128, heads2 g (scaled q) KW VW B4 B5 256 slices_S64x1024_o0_256_S64x128 slices_S576x1024_o0_256_S576x128⟩,
    ⟨S64x128, heads2 g (scaled q) KW VW B6 B7 384 slices_S64x1024_o0_384_S64x128 slices_S576x1024_o0_384_S576x128⟩,
    ⟨S64x128, heads2 g (scaled q) KW VW B8 B9 512 slices_S64x1024_o0_512_S64x128 slices_S576x1024_o0_512_S576x128⟩,
    ⟨S64x128, heads2 g (scaled q) KW VW B10 B11 640 slices_S64x1024_o0_640_S64x128 slices_S576x1024_o0_640_S576x128⟩,
    ⟨S64x128, heads2 g (scaled q) KW VW B12 B13 768 slices_S64x1024_o0_768_S64x128 slices_S576x1024_o0_768_S576x128⟩,
    ⟨S64x128, heads2 g (scaled q) KW VW B14 B15 896 slices_S64x1024_o0_896_S64x128 slices_S576x1024_o0_896_S576x128⟩]
    concatenates_S64x128_S64x128_S64x128_S64x128_S64x128_S64x128_S64x128_S64x128_S64x1024_d1) bitsLt_bf16_f32

/-- The mask of the first loop at trip `k`: a key is kept when its position is not before the start. -/
def maskA (k : Fin k0_t1_loop.trips) (s : FVec F S64x576 .f32) : FVec F S64x576 .f32 :=
  select (k0_pay8 0#32 1#32 k) s (broadcast S64x576 (Named.named κ "mask" 0xF149F2CA#32))

end Cert.KernelIdeal.BandAttention

end
-- ==== Proof.Attn2.lean ====
module

public import proofs.«01_k».proof.Proof.Attn1
public import Idealize.ShloMosaic.Lib.Claim
public import Idealize.ShloMosaic.Lib.Pipeline.ValueKit
public import Idealize.ShloMosaic.Lib.Pointwise

@[expose] public section

set_option maxRecDepth 16384

/-!
# One chunk's rows

  The softmax of a row of scores, and what a chunk computes from its queries, keys, values and biases.
-/

noncomputable section

namespace Cert.KernelIdeal.BandAttention

open Cert.KernelIdeal Cert.KernelIdeal.Gen Idealize.ShloMosaic Idealize.ShloMosaic.TcCoe Idealize.SL.Sem

/-- The maximum of a row of scores. -/
def rowMax (s : Fin 576 → EReal) : EReal := (Finset.univ : Finset (Fin 576)).fold max ⊥ s

/-- The exponentials of a row of scores less their maximum. -/
def rowExp (s : Fin 576 → EReal) (j : Fin 576) : EReal := Ideal.exp (s j - rowMax s)

/-- The values weighted by the exponentials, times the reciprocal of the exponentials' sum. -/
def rowMix (s V : Fin 576 → EReal) : EReal := (∑ j, rowExp s j * V j) * Ideal.div 1 (∑ j, rowExp s j)

theorem bits_negInf : Ideal.ofBits .f32 4286578688#32 = ⊥ := by
  simp [Ideal.ofBits, Ideal.ieee]

/-- Only the first half of the lanes of a cleared product counts. -/
theorem sum_low (f : Fin 128 → EReal) :
    (∑ x : Fin 128, Scalar.select (IntOp.cmpi .slt (BitVec.ofNat 32 x.val) 64#32) (f x) 0) = ∑ d : Fin 64, f ⟨d.val, by omega⟩ := by
  have hs : ∀ x : Fin 128, Scalar.select (IntOp.cmpi .slt (BitVec.ofNat 32 x.val) 64#32) (f x) 0 = if x.val < 64 then f x else 0 := by
    intro x
    have : ∀ x : Fin 128, IntOp.cmpi .slt (BitVec.ofNat 32 x.val) 64#32 = if x.val < 64 then 1#1 else 0#1 := by decide +kernel
    rw [this x]
    by_cases h : x.val < 64 <;> simp [h, Scalar.select]
  rw [Finset.sum_congr rfl fun x _ => hs x]
  rw [Fin.sum_univ_add (a := 64) (b := 64) (fun x : Fin 128 => if x.val < 64 then f x else 0)]
  have e1 : ∀ d : Fin 64, (if (Fin.castAdd 64 d : Fin 128).val < 64 then f (Fin.castAdd 64 d) else 0) = f ⟨d.val, by omega⟩ := fun d => if_pos d.isLt
  have e2 : ∀ d : Fin 64, (if (Fin.natAdd 64 d : Fin 128).val < 64 then f (Fin.natAdd 64 d) else 0) = 0 := fun d => if_neg (by simp)
  rw [Finset.sum_congr rfl fun d _ => e1 d, Finset.sum_congr rfl fun d _ => e2 d]
  simp

/-- Only the second half of the lanes of the other cleared product counts. -/
theorem sum_high (f : Fin 128 → EReal) :
    (∑ x : Fin 128, Scalar.select (IntOp.cmpi .slt (BitVec.ofNat 32 x.val) 64#32) 0 (f x)) = ∑ d : Fin 64, f ⟨64 + d.val, by omega⟩ := by
  have hs : ∀ x : Fin 128, Scalar.select (IntOp.cmpi .slt (BitVec.ofNat 32 x.val) 64#32) 0 (f x) = if x.val < 64 then 0 else f x := by
    intro x
    have : ∀ x : Fin 128, IntOp.cmpi .slt (BitVec.ofNat 32 x.val) 64#32 = if x.val < 64 then 1#1 else 0#1 := by decide +kernel
    rw [this x]
    by_cases h : x.val < 64 <;> simp [h, Scalar.select]
  rw [Finset.sum_congr rfl fun x _ => hs x]
  rw [Fin.sum_univ_add (a := 64) (b := 64) (fun x : Fin 128 => if x.val < 64 then 0 else f x)]
  have e1 : ∀ d : Fin 64, (if (Fin.castAdd 64 d : Fin 128).val < 64 then 0 else f (Fin.castAdd 64 d)) = 0 := fun d => if_pos d.isLt
  have e2 : ∀ d : Fin 64, (if (Fin.natAdd 64 d : Fin 128).val < 64 then 0 else f (Fin.natAdd 64 d)) = f ⟨64 + d.val, by omega⟩ := fun d => if_neg (by simp)
  rw [Finset.sum_congr rfl fun d _ => e1 d, Finset.sum_congr rfl fun d _ => e2 d]
  simp

theorem score2_lo (QS : FVec Ideal S64x1024 .bf16) (KW : Vec Ideal S576x1024 .bf16) (o : Nat) (hq : S64x1024.Slices ![0, o] S64x128)
    (hk : S576x1024.Slices ![0, o] S576x128) (ho : o + 128 ≤ 1024) (r : Fin 64) (j : Fin 576) (h : r.val < 128) :
    score2 QS KW o hq hk (ix2 ⟨r.val, h⟩ j) = ∑ d : Fin 64, @HMul.hMul EReal EReal EReal instHMul (QS (ix2 r ⟨o + d.val, by omega⟩)) (KW (ix2 j ⟨o + d.val, by omega⟩)) := by
  pointwise [score2, k0_pay5, zero16]
  exact sum_low (fun x => QS (ix2 r ⟨o + x.val, by omega⟩) * KW (ix2 j ⟨o + x.val, by omega⟩))

theorem score2_hi (QS : FVec Ideal S64x1024 .bf16) (KW : Vec Ideal S576x1024 .bf16) (o : Nat) (hq : S64x1024.Slices ![0, o] S64x128)
    (hk : S576x1024.Slices ![0, o] S576x128) (ho : o + 128 ≤ 1024) (r : Fin 64) (j : Fin 576) (h : 64 + r.val < 128) :
    score2 QS KW o hq hk (ix2 ⟨64 + r.val, h⟩ j) = ∑ d : Fin 64, @HMul.hMul EReal EReal EReal instHMul (QS (ix2 r ⟨o + (64 + d.val), by omega⟩)) (KW (ix2 j ⟨o + (64 + d.val), by omega⟩)) := by
  pointwise [score2, k0_pay5, zero16]
  exact sum_high (fun x => QS (ix2 r ⟨o + x.val, by omega⟩) * KW (ix2 j ⟨o + x.val, by omega⟩))

theorem expo_at (s : FVec Ideal S64x576 .f32) (r : Fin 64) (j : Fin 576) :
    expo s (ix2 r j) = rowExp (fun k => s (ix2 r k)) j := by
  pointwise [expo]
  rw [bits_negInf]
  rfl

theorem recip_at (s : FVec Ideal S64x576 .f32) (r : Fin 64) :
    recip s (ix2 r 0) = Ideal.div 1 (∑ k : Fin 576, @id EReal (s (ix2 r k))) := by
  pointwise [recip]
  rfl

/-- Two heads' outputs: the first head's lanes. -/
theorem mix2_lo (VW : Vec Ideal S576x1024 .bf16) (o : Nat) (hv : S576x1024.Slices ![0, o] S576x128) (e0 e1 : FVec Ideal S64x576 .f32)
    (ho : o + 128 ≤ 1024) (r : Fin 64) (l : Fin 64) (h : l.val < 128) :
    mix2 VW o hv e0 e1 (ix2 r ⟨l.val, h⟩)
    = (∑ j : Fin 576, @HMul.hMul EReal EReal EReal instHMul (e0 (ix2 r j)) (VW (ix2 j ⟨o + l.val, by omega⟩))) * Ideal.div 1 (∑ j : Fin 576, @id EReal (e0 (ix2 r j))) := by
  pointwise [mix2, recip, k0_pay5]
  have e : IntOp.cmpi .slt (BitVec.ofNat 32 l.val) 64#32 = 1#1 :=
    (by decide +kernel : ∀ l : Fin 64, IntOp.cmpi .slt (BitVec.ofNat 32 l.val) 64#32 = 1#1) l
  rw [e]
  rfl

theorem mix2_hi (VW : Vec Ideal S576x1024 .bf16) (o : Nat) (hv : S576x1024.Slices ![0, o] S576x128) (e0 e1 : FVec Ideal S64x576 .f32)
    (ho : o + 128 ≤ 1024) (r : Fin 64) (l : Fin 64) (h : 64 + l.val < 128) :
    mix2 VW o hv e0 e1 (ix2 r ⟨64 + l.val, h⟩)
    = (∑ j : Fin 576, @HMul.hMul EReal EReal EReal instHMul (e1 (ix2 r j)) (VW (ix2 j ⟨o + (64 + l.val), by omega⟩))) * Ideal.div 1 (∑ j : Fin 576, @id EReal (e1 (ix2 r j))) := by
  pointwise [mix2, recip, k0_pay5]
  have e : IntOp.cmpi .slt (BitVec.ofNat 32 (64 + l.val)) 64#32 = 0#1 :=
    (by decide +kernel : ∀ l : Fin 64, IntOp.cmpi .slt (BitVec.ofNat 32 (64 + l.val)) 64#32 = 0#1) l
  rw [e]
  rfl

/-- The value a masked row reads, as the second argument of `chunk` at a row. -/
theorem maskA_at (k : Fin k0_t1_loop.trips) (s : FVec Ideal S64x576 .f32) (r : Fin 64) (j : Fin 576) :
    maskA (F := Ideal) k s (ix2 r j) = if 512 ≤ k.val * 64 + j.val then s (ix2 r j) else ⊥ := by
  pointwise [maskA, k0_pay8]
  have e : IntOp.cmpi .sge (IntOp.addi (BitVec.ofNat 32 j.val) (Scalar.muli (Scf.iv 0#32 1#32 k.val) 64#32)) 512#32
      = if 512 ≤ k.val * 64 + j.val then 1#1 else 0#1 :=
    (by decide +kernel : ∀ (k : Fin 8) (j : Fin 576), IntOp.cmpi .sge (IntOp.addi (BitVec.ofNat 32 j.val) (Scalar.muli (Scf.iv 0#32 1#32 k.val) 64#32)) 512#32
      = if 512 ≤ k.val * 64 + j.val then 1#1 else 0#1) k j
  rw [e]
  have em : (Named.named κ "mask" 4048155338#32 : Ideal .f32) = (⊥ : EReal) := rfl
  rw [em]
  by_cases h : 512 ≤ k.val * 64 + j.val
  · rw [if_pos h, if_pos h]; rfl
  · rw [if_neg h, if_neg h]; rfl

/-- Two heads' outputs at an index: the first head's lanes. -/
theorem heads2_lo (g : FVec Ideal S64x576 .f32 → FVec Ideal S64x576 .f32) (keep : Fin 576 → Prop) [DecidablePred keep]
    (hg : ∀ (s : FVec Ideal S64x576 .f32) r j, g s (ix2 r j) = if keep j then s (ix2 r j) else ⊥)
    (QS : FVec Ideal S64x1024 .bf16) (KW VW : Vec Ideal S576x1024 .bf16) (B0 B1 : Vec Ideal S1x64x576 .f32) (o : Nat)
    (hq : S64x1024.Slices ![0, o] S64x128) (hk : S576x1024.Slices ![0, o] S576x128) (ho : o + 128 ≤ 1024) (r l : Fin 64) (h : l.val < 128) :
    heads2 g QS KW VW B0 B1 o hq hk (ix2 r ⟨l.val, h⟩)
    = rowMix (fun j => if keep j then @HAdd.hAdd EReal EReal EReal instHAdd (∑ d : Fin 64, @HMul.hMul EReal EReal EReal instHMul (QS (ix2 r ⟨o + d.val, by omega⟩)) (KW (ix2 j ⟨o + d.val, by omega⟩))) (B0 (ix3 0 r j)) else ⊥)
        (fun j => VW (ix2 j ⟨o + l.val, by omega⟩)) := by
  rw [heads2, mix2_lo (ho := ho)]
  simp only [expo_at, hg]
  have hb : ∀ j : Fin 576, biased (extractStridedSlice S64x576 ![0, 0] (score2 QS KW o hq hk) slices_S128x576_o0_0_S64x576) B0 (ix2 r j)
      = @HAdd.hAdd EReal EReal EReal instHAdd (∑ d : Fin 64, @HMul.hMul EReal EReal EReal instHMul (QS (ix2 r ⟨o + d.val, by omega⟩)) (KW (ix2 j ⟨o + d.val, by omega⟩))) (B0 (ix3 0 r j)) := by
    intro j
    rw [← score2_lo QS KW o hq hk ho r j (by omega)]
    pointwise [biased]
  simp only [hb]
  rfl

/-- Two heads' outputs at an index: the second head's lanes. -/
theorem heads2_hi (g : FVec Ideal S64x576 .f32 → FVec Ideal S64x576 .f32) (keep : Fin 576 → Prop) [DecidablePred keep]
    (hg : ∀ (s : FVec Ideal S64x576 .f32) r j, g s (ix2 r j) = if keep j then s (ix2 r j) else ⊥)
    (QS : FVec Ideal S64x1024 .bf16) (KW VW : Vec Ideal S576x1024 .bf16) (B0 B1 : Vec Ideal S1x64x576 .f32) (o : Nat)
    (hq : S64x1024.Slices ![0, o] S64x128) (hk : S576x1024.Slices ![0, o] S576x128) (ho : o + 128 ≤ 1024) (r l : Fin 64) (h : 64 + l.val < 128) :
    heads2 g QS KW VW B0 B1 o hq hk (ix2 r ⟨64 + l.val, h⟩)
    = rowMix (fun j => if keep j then @HAdd.hAdd EReal EReal EReal instHAdd (∑ d : Fin 64, @HMul.hMul EReal EReal EReal instHMul (QS (ix2 r ⟨o + (64 + d.val), by omega⟩)) (KW (ix2 j ⟨o + (64 + d.val), by omega⟩))) (B1 (ix3 0 r j)) else ⊥)
        (fun j => VW (ix2 j ⟨o + (64 + l.val), by omega⟩)) := by
  rw [heads2, mix2_hi (ho := ho)]
  simp only [expo_at, hg]
  have hb : ∀ j : Fin 576, biased (extractStridedSlice S64x576 ![64, 0] (score2 QS KW o hq hk) slices_S128x576_o64_0_S64x576) B1 (ix2 r j)
      = @HAdd.hAdd EReal EReal EReal instHAdd (∑ d : Fin 64, @HMul.hMul EReal EReal EReal instHMul (QS (ix2 r ⟨o + (64 + d.val), by omega⟩)) (KW (ix2 j ⟨o + (64 + d.val), by omega⟩))) (B1 (ix3 0 r j)) := by
    intro j
    rw [← score2_hi QS KW o hq hk ho r j (by omega)]
    pointwise [biased]
  simp only [hb]
  rfl

/-- The same with the column named by its head. -/
theorem heads2_lo_col (g : FVec Ideal S64x576 .f32 → FVec Ideal S64x576 .f32) (keep : Fin 576 → Prop) [DecidablePred keep]
    (hg : ∀ (s : FVec Ideal S64x576 .f32) r j, g s (ix2 r j) = if keep j then s (ix2 r j) else ⊥)
    (QS : FVec Ideal S64x1024 .bf16) (KW VW : Vec Ideal S576x1024 .bf16) (B0 B1 B : Vec Ideal S1x64x576 .f32) (o : Nat)
    (hq : S64x1024.Slices ![0, o] S64x128) (hk : S576x1024.Slices ![0, o] S576x128) (ho : o + 128 ≤ 1024) (r l : Fin 64) (x : Fin 128)
    (hx : x.val = l.val) (col : Fin 64 → Fin 1024) (hc : ∀ d, (col d).val = o + (d.val)) (hB : B = B0) :
    heads2 g QS KW VW B0 B1 o hq hk (ix2 r x)
    = rowMix (fun j => if keep j then @HAdd.hAdd EReal EReal EReal instHAdd (∑ d : Fin 64, @HMul.hMul EReal EReal EReal instHMul (QS (ix2 r (col d))) (KW (ix2 j (col d)))) (B (ix3 0 r j)) else ⊥)
        (fun j => VW (ix2 j (col l))) := by
  have hx' : x = ⟨l.val, by omega⟩ := Fin.ext hx
  have hc' : col = fun d => ⟨o + (d.val), by omega⟩ := funext fun d => Fin.ext (hc d)
  rw [hx', hc', hB]
  exact heads2_lo g keep hg QS KW VW B0 B1 o hq hk ho r l _

/-- The same with the column named by its head. -/
theorem heads2_hi_col (g : FVec Ideal S64x576 .f32 → FVec Ideal S64x576 .f32) (keep : Fin 576 → Prop) [DecidablePred keep]
    (hg : ∀ (s : FVec Ideal S64x576 .f32) r j, g s (ix2 r j) = if keep j then s (ix2 r j) else ⊥)
    (QS : FVec Ideal S64x1024 .bf16) (KW VW : Vec Ideal S576x1024 .bf16) (B0 B1 B : Vec Ideal S1x64x576 .f32) (o : Nat)
    (hq : S64x1024.Slices ![0, o] S64x128) (hk : S576x1024.Slices ![0, o] S576x128) (ho : o + 128 ≤ 1024) (r l : Fin 64) (x : Fin 128)
    (hx : x.val = 64 + l.val) (col : Fin 64 → Fin 1024) (hc : ∀ d, (col d).val = o + (64 + d.val)) (hB : B = B1) :
    heads2 g QS KW VW B0 B1 o hq hk (ix2 r x)
    = rowMix (fun j => if keep j then @HAdd.hAdd EReal EReal EReal instHAdd (∑ d : Fin 64, @HMul.hMul EReal EReal EReal instHMul (QS (ix2 r (col d))) (KW (ix2 j (col d)))) (B (ix3 0 r j)) else ⊥)
        (fun j => VW (ix2 j (col l))) := by
  have hx' : x = ⟨64 + l.val, by omega⟩ := Fin.ext hx
  have hc' : col = fun d => ⟨o + (64 + d.val), by omega⟩ := funext fun d => Fin.ext (hc d)
  rw [hx', hc', hB]
  exact heads2_hi g keep hg QS KW VW B0 B1 o hq hk ho r l _

end Cert.KernelIdeal.BandAttention

end
-- ==== Proof.Attn3.lean ====
module

public import proofs.«01_k».proof.Proof.Attn2
public import Idealize.ShloMosaic.Lib.Claim
public import Idealize.ShloMosaic.Lib.Pipeline.ValueKit
public import Idealize.ShloMosaic.Lib.Pointwise

@[expose] public section

set_option maxRecDepth 16384

/-!
The chunk's output at an index: the eight pairs of heads read one head at a time.
-/

noncomputable section

namespace Cert.KernelIdeal.BandAttention

open Cert.KernelIdeal Cert.KernelIdeal.Gen Idealize.ShloMosaic Idealize.ShloMosaic.TcCoe Idealize.SL.Sem

set_option maxHeartbeats 1000000 in
/-- The chunk's output at an index. -/
theorem chunk_at (g : FVec Ideal S64x576 .f32 → FVec Ideal S64x576 .f32) (keep : Fin 576 → Prop) [DecidablePred keep]
    (hg : ∀ (s : FVec Ideal S64x576 .f32) r j, g s (ix2 r j) = if keep j then s (ix2 r j) else ⊥)
    (q : FVec Ideal S64x1024 .bf16) (KW VW : Vec Ideal S576x1024 .bf16) (B : Fin 16 → Vec Ideal S1x64x576 .f32)
    (r : Fin 64) (h : Fin 16) (l : Fin 64) :
    chunk g q KW VW (B 0) (B 1) (B 2) (B 3) (B 4) (B 5) (B 6) (B 7) (B 8) (B 9) (B 10) (B 11) (B 12) (B 13) (B 14) (B 15) (ix2 r ⟨64 * h.val + l.val, by omega⟩)
    = rowMix (fun j => if keep j then @HAdd.hAdd EReal EReal EReal instHAdd (∑ d : Fin 64, @HMul.hMul EReal EReal EReal instHMul (scaled (F := Ideal) q (ix2 r ⟨64 * h.val + d.val, by omega⟩)) (KW (ix2 j ⟨64 * h.val + d.val, by omega⟩))) (B h (ix3 0 r j)) else ⊥)
        (fun j => VW (ix2 j ⟨64 * h.val + l.val, by omega⟩)) := by
  pointwise [chunk]
  obtain ⟨h, hh⟩ := h
  interval_cases h
  · dsimp only
    repeat first
      | rw [dif_pos (by omega)]
      | rw [dif_neg (by omega)]
    refine heads2_lo_col g keep hg (scaled q) KW VW (B 0) (B 1) (B 0) 0 _ _ (by decide) r l _ ?_ (fun d => ⟨64 * 0 + d.val, by omega⟩) ?_ rfl
    · first | omega | (dsimp only; omega) | rfl
    · intro d; first | rfl | omega | (dsimp only; omega)
  · dsimp only
    repeat first
      | rw [dif_pos (by omega)]
      | rw [dif_neg (by omega)]
    refine heads2_hi_col g keep hg (scaled q) KW VW (B 0) (B 1) (B 1) 0 _ _ (by decide) r l _ ?_ (fun d => ⟨64 * 1 + d.val, by omega⟩) ?_ rfl
    · first | omega | (dsimp only; omega) | rfl
    · intro d; first | rfl | omega | (dsimp only; omega)
  · dsimp only
    repeat first
      | rw [dif_pos (by omega)]
      | rw [dif_neg (by omega)]
    refine heads2_lo_col g keep hg (scaled q) KW VW (B 2) (B 3) (B 2) 128 _ _ (by decide) r l _ ?_ (fun d => ⟨64 * 2 + d.val, by omega⟩) ?_ rfl
    · first | omega | (dsimp only; omega) | rfl
    · intro d; first | rfl | omega | (dsimp only; omega)
  · dsimp only
    repeat first
      | rw [dif_pos (by omega)]
      | rw [dif_neg (by omega)]
    refine heads2_hi_col g keep hg (scaled q) KW VW (B 2) (B 3) (B 3) 128 _ _ (by decide) r l _ ?_ (fun d => ⟨64 * 3 + d.val, by omega⟩) ?_ rfl
    · first | omega | (dsimp only; omega) | rfl
    · intro d; first | rfl | omega | (dsimp only; omega)
  · dsimp only
    repeat first
      | rw [dif_pos (by omega)]
      | rw [dif_neg (by omega)]
    refine heads2_lo_col g keep hg (scaled q) KW VW (B 4) (B 5) (B 4) 256 _ _ (by decide) r l _ ?_ (fun d => ⟨64 * 4 + d.val, by omega⟩) ?_ rfl
    · first | omega | (dsimp only; omega) | rfl
    · intro d; first | rfl | omega | (dsimp only; omega)
  · dsimp only
    repeat first
      | rw [dif_pos (by omega)]
      | rw [dif_neg (by omega)]
    refine heads2_hi_col g keep hg (scaled q) KW VW (B 4) (B 5) (B 5) 256 _ _ (by decide) r l _ ?_ (fun d => ⟨64 * 5 + d.val, by omega⟩) ?_ rfl
    · first | omega | (dsimp only; omega) | rfl
    · intro d; first | rfl | omega | (dsimp only; omega)
  · dsimp only
    repeat first
      | rw [dif_pos (by omega)]
      | rw [dif_neg (by omega)]
    refine heads2_lo_col g keep hg (scaled q) KW VW (B 6) (B 7) (B 6) 384 _ _ (by decide) r l _ ?_ (fun d => ⟨64 * 6 + d.val, by omega⟩) ?_ rfl
    · first | omega | (dsimp only; omega) | rfl
    · intro d; first | rfl | omega | (dsimp only; omega)
  · dsimp only
    repeat first
      | rw [dif_pos (by omega)]
      | rw [dif_neg (by omega)]
    refine heads2_hi_col g keep hg (scaled q) KW VW (B 6) (B 7) (B 7) 384 _ _ (by decide) r l _ ?_ (fun d => ⟨64 * 7 + d.val, by omega⟩) ?_ rfl
    · first | omega | (dsimp only; omega) | rfl
    · intro d; first | rfl | omega | (dsimp only; omega)
  · dsimp only
    repeat first
      | rw [dif_pos (by omega)]
      | rw [dif_neg (by omega)]
    refine heads2_lo_col g keep hg (scaled q) KW VW (B 8) (B 9) (B 8) 512 _ _ (by decide) r l _ ?_ (fun d => ⟨64 * 8 + d.val, by omega⟩) ?_ rfl
    · first | omega | (dsimp only; omega) | rfl
    · intro d; first | rfl | omega | (dsimp only; omega)
  · dsimp only
    repeat first
      | rw [dif_pos (by omega)]
      | rw [dif_neg (by omega)]
    refine heads2_hi_col g keep hg (scaled q) KW VW (B 8) (B 9) (B 9) 512 _ _ (by decide) r l _ ?_ (fun d => ⟨64 * 9 + d.val, by omega⟩) ?_ rfl
    · first | omega | (dsimp only; omega) | rfl
    · intro d; first | rfl | omega | (dsimp only; omega)
  · dsimp only
    repeat first
      | rw [dif_pos (by omega)]
      | rw [dif_neg (by omega)]
    refine heads2_lo_col g keep hg (scaled q) KW VW (B 10) (B 11) (B 10) 640 _ _ (by decide) r l _ ?_ (fun d => ⟨64 * 10 + d.val, by omega⟩) ?_ rfl
    · first | omega | (dsimp only; omega) | rfl
    · intro d; first | rfl | omega | (dsimp only; omega)
  · dsimp only
    repeat first
      | rw [dif_pos (by omega)]
      | rw [dif_neg (by omega)]
    refine heads2_hi_col g keep hg (scaled q) KW VW (B 10) (B 11) (B 11) 640 _ _ (by decide) r l _ ?_ (fun d => ⟨64 * 11 + d.val, by omega⟩) ?_ rfl
    · first | omega | (dsimp only; omega) | rfl
    · intro d; first | rfl | omega | (dsimp only; omega)
  · dsimp only
    repeat first
      | rw [dif_pos (by omega)]
      | rw [dif_neg (by omega)]
    refine heads2_lo_col g keep hg (scaled q) KW VW (B 12) (B 13) (B 12) 768 _ _ (by decide) r l _ ?_ (fun d => ⟨64 * 12 + d.val, by omega⟩) ?_ rfl
    · first | omega | (dsimp only; omega) | rfl
    · intro d; first | rfl | omega | (dsimp only; omega)
  · dsimp only
    repeat first
      | rw [dif_pos (by omega)]
      | rw [dif_neg (by omega)]
    refine heads2_hi_col g keep hg (scaled q) KW VW (B 12) (B 13) (B 13) 768 _ _ (by decide) r l _ ?_ (fun d => ⟨64 * 13 + d.val, by omega⟩) ?_ rfl
    · first | omega | (dsimp only; omega) | rfl
    · intro d; first | rfl | omega | (dsimp only; omega)
  · dsimp only
    repeat first
      | rw [dif_pos (by omega)]
      | rw [dif_neg (by omega)]
    refine heads2_lo_col g keep hg (scaled q) KW VW (B 14) (B 15) (B 14) 896 _ _ (by decide) r l _ ?_ (fun d => ⟨64 * 14 + d.val, by omega⟩) ?_ rfl
    · first | omega | (dsimp only; omega) | rfl
    · intro d; first | rfl | omega | (dsimp only; omega)
  · dsimp only
    repeat first
      | rw [dif_pos (by omega)]
      | rw [dif_neg (by omega)]
    refine heads2_hi_col g keep hg (scaled q) KW VW (B 14) (B 15) (B 15) 896 _ _ (by decide) r l _ ?_ (fun d => ⟨64 * 15 + d.val, by omega⟩) ?_ rfl
    · first | omega | (dsimp only; omega) | rfl
    · intro d; first | rfl | omega | (dsimp only; omega)

end Cert.KernelIdeal.BandAttention

end
-- ==== Proof.Attn4.lean ====
module

public import proofs.«01_k».proof.Proof.Attn3
public import Idealize.ShloMosaic.Lib.Claim
public import Idealize.ShloMosaic.Lib.Pipeline.ValueKit
public import Idealize.ShloMosaic.Lib.Pointwise

@[expose] public section

set_option maxRecDepth 16384

/-!
What a trip of the loop stores at an index, from what the input blocks hold.
-/

noncomputable section

namespace Cert.KernelIdeal.BandAttention

open Cert.KernelIdeal Cert.KernelIdeal.Gen Idealize.ShloMosaic Idealize.ShloMosaic.TcCoe Idealize.SL.Sem

/-- The two blocks of rows a program reads, one above the other, at a row and a column. -/
def rows (p c : Vec Ideal S512x1024 .f32) (i : ℕ) (hi : i < 1024) (d : Fin 1024) : EReal :=
  if h : i < 512 then p (ix2 ⟨i, h⟩ d) else c (ix2 ⟨i - 512, by omega⟩ d)

/-- One eighth as the kernel writes it. -/
def eighth : EReal := Scalar.ofBits (F := Ideal) .bf16 0x3E00#16

/-- A result element of a program: query row `r` of chunk `k`, lane `l` of head `h`. -/
def cell (keep : Fin 8 → Fin 576 → Prop) [∀ k, DecidablePred (keep k)] (x0 : Vec Ideal S512x1024 .bf16) (x1 x2 x3 x4 : Vec Ideal S512x1024 .f32)
    (x5 : Vec Ideal S16x64x576 .f32) (k : Fin 8) (r : Fin 64) (h : Fin 16) (l : Fin 64) : EReal :=
  rowMix (fun j => if keep k j then @HAdd.hAdd EReal EReal EReal instHAdd (∑ d : Fin 64, @HMul.hMul EReal EReal EReal instHMul
      (@HMul.hMul EReal EReal EReal instHMul (x0 (ix2 ⟨64 * k.val + r.val, by omega⟩ ⟨64 * h.val + d.val, by omega⟩)) eighth)
      (rows x1 x2 (64 * k.val + j.val) (by omega) ⟨64 * h.val + d.val, by omega⟩)) (x5 (ix3 h r j)) else ⊥)
    (fun j => rows x3 x4 (64 * k.val + j.val) (by omega) ⟨64 * h.val + l.val, by omega⟩)

/-- The same element by its row and column in the block. -/
def cellAt (keep : Fin 8 → Fin 576 → Prop) [∀ k, DecidablePred (keep k)] (x0 : Vec Ideal S512x1024 .bf16) (x1 x2 x3 x4 : Vec Ideal S512x1024 .f32)
    (x5 : Vec Ideal S16x64x576 .f32) (y : S512x1024.Idx) : EReal :=
  have h0 : (y 0).val < 512 := (y 0).isLt
  have h1 : (y 1).val < 1024 := (y 1).isLt
  cell keep x0 x1 x2 x3 x4 x5 ⟨(y 0).val / 64, by omega⟩ ⟨(y 0).val % 64, by omega⟩ ⟨(y 1).val / 64, by omega⟩ ⟨(y 1).val % 64, by omega⟩

theorem cellAt_of (keep : Fin 8 → Fin 576 → Prop) [∀ k, DecidablePred (keep k)] (x0 : Vec Ideal S512x1024 .bf16) (x1 x2 x3 x4 : Vec Ideal S512x1024 .f32)
    (x5 : Vec Ideal S16x64x576 .f32) (y : S512x1024.Idx) (k : Fin 8) (r : Fin 64) (h : Fin 16) (l : Fin 64)
    (h0 : (y 0).val = 64 * k.val + r.val) (h1 : (y 1).val = 64 * h.val + l.val) :
    cellAt keep x0 x1 x2 x3 x4 x5 y = cell keep x0 x1 x2 x3 x4 x5 k r h l := by
  have e0 : (y 0).val / 64 = k.val := by omega
  have e1 : (y 0).val % 64 = r.val := by omega
  have e2 : (y 1).val / 64 = h.val := by omega
  have e3 : (y 1).val % 64 = l.val := by omega
  unfold cellAt
  dsimp only
  congr 1 <;> exact Fin.ext (by assumption)

/-- The bias of a head as the loop loads it. -/
def biasOf (x5 : Vec Ideal S16x64x576 .f32) (h : Fin 16) : Vec Ideal S1x64x576 .f32 := fun x => x5 (ix3 h (x 1) (x 2))

theorem bias_load (arg7 : Memref sig .tc .vmem S16x64x576 .f32) (harg7 : arg7.IsWhole) (x5 : Vec Ideal S16x64x576 .f32) (n : ℕ) (hn : n < 16)
    (inb : ∀ a : Fin 3, (![n, 0, 0] : Fin 3 → ℕ) a + S1x64x576.size a ≤ S16x64x576.size a) :
    View.readAt (Elt Ideal) arg7.view (Rect.unit (s := S16x64x576) ![n, 0, 0] S1x64x576.size inb).toLoadRect (harg7.unread x5) = biasOf x5 ⟨n, hn⟩ := by
  funext x
  rw [View.readAt_apply, harg7.read_unread]
  unfold biasOf
  refine congrArg x5 (funext fun a => Fin.ext ?_)
  have hx : (x 0).val = 0 := by have := (x 0).isLt; change (x 0).val < 1 at this; omega
  match a with
  | ⟨0, _⟩ => change n + 1 * (x 0).val = n; omega
  | ⟨1, _⟩ => change 0 + 1 * (x 1).val = (x 1).val; omega
  | ⟨2, _⟩ => change 0 + 1 * (x 2).val = (x 2).val; omega

theorem row_load {S : Shape} {d0 W : ℕ} {e : EltTy} (arg : Memref sig .tc .vmem (⟨2, ![d0, 1024]⟩ : Shape) e) (X : BufTy.Contents (Elt Ideal) arg.view.ty)
    (off : Fin 2 → ℕ) (o : ℕ) (ho : off = ![o, 0]) (inb : ∀ a : Fin 2, off a + (![W, 1024] : Fin 2 → ℕ) a ≤ (![d0, 1024] : Fin 2 → ℕ) a)
    (r : Fin W) (c : Fin 1024) (h : o + r.val < d0) :
    View.readAt (Elt Ideal) arg.view (Rect.unit (s := ⟨2, ![d0, 1024]⟩) off ![W, 1024] inb).toLoadRect X (ix2 r c)
    = arg.view.read (Elt Ideal) X (ix2 ⟨o + r.val, h⟩ c) := by
  subst ho
  rw [View.readAt_apply]
  refine congrArg _ (funext fun a => Fin.ext ?_)
  match a with
  | ⟨0, _⟩ => change o + 1 * r.val = o + r.val; omega
  | ⟨1, _⟩ => change 0 + 1 * c.val = c.val; omega

/-- The chunk a trip stores, at an index, from what the buffers hold. -/
theorem trip_at (g : FVec Ideal S64x576 .f32 → FVec Ideal S64x576 .f32) (keep : Fin 8 → Fin 576 → Prop) [∀ k, DecidablePred (keep k)] (k : Fin 8)
    (hg : ∀ (s : FVec Ideal S64x576 .f32) r j, g s (ix2 r j) = if keep k j then s (ix2 r j) else ⊥)
    (arg2 : Memref sig .tc .vmem S512x1024 .bf16) (harg2 : arg2.IsWhole) (arg7 : Memref sig .tc .vmem S16x64x576 .f32) (harg7 : arg7.IsWhole)
    (arg9 : Memref sig .tc .vmem S1024x1024 .bf16) (arg10 : Memref sig .tc .vmem S1024x1024 .bf16)
    (X9 : BufTy.Contents (Elt Ideal) arg9.view.ty) (X10 : BufTy.Contents (Elt Ideal) arg10.view.ty)
    (x0 : Vec Ideal S512x1024 .bf16) (x1 x2 x3 x4 : Vec Ideal S512x1024 .f32) (x5 : Vec Ideal S16x64x576 .f32)
    (h9 : ∀ (i : ℕ) (hi : i < 1024) (d : Fin 1024), arg9.view.read (Elt Ideal) X9 (ix2 ⟨i, hi⟩ d) = rows x1 x2 i hi d)
    (h10 : ∀ (i : ℕ) (hi : i < 1024) (d : Fin 1024), arg10.view.read (Elt Ideal) X10 (ix2 ⟨i, hi⟩ d) = rows x3 x4 i hi d)
    (off1 off2 : Fin 2 → ℕ) (ho1 : off1 = ![64 * k.val, 0]) (ho2 : off2 = ![64 * k.val, 0])
    (inb1 : ∀ a, off1 a + S64x1024.size a ≤ S512x1024.size a) (inb2 : ∀ a, off2 a + S576x1024.size a ≤ S1024x1024.size a)
    (r : Fin 64) (h : Fin 16) (l : Fin 64) :
    chunk g (View.readAt (Elt Ideal) arg2.view (Rect.unit (s := S512x1024) off1 S64x1024.size inb1).toLoadRect (harg2.unread x0))
      (View.readAt (Elt Ideal) arg9.view (Rect.unit (s := S1024x1024) off2 S576x1024.size inb2).toLoadRect X9)
      (View.readAt (Elt Ideal) arg10.view (Rect.unit (s := S1024x1024) off2 S576x1024.size inb2).toLoadRect X10)
      (View.readAt (Elt Ideal) arg7.view (Rect.unit (s := S16x64x576) ![0, 0, 0] S1x64x576.size inb_S16x64x576_S1x64x576_0_0_0).toLoadRect (harg7.unread x5)) (View.readAt (Elt Ideal) arg7.view (Rect.unit (s := S16x64x576) ![1, 0, 0] S1x64x576.size inb_S16x64x576_S1x64x576_1_0_0).toLoadRect (harg7.unread x5)) (View.readAt (Elt Ideal) arg7.view (Rect.unit (s := S16x64x576) ![2, 0, 0] S1x64x576.size inb_S16x64x576_S1x64x576_2_0_0).toLoadRect (harg7.unread x5)) (View.readAt (Elt Ideal) arg7.view (Rect.unit (s := S16x64x576) ![3, 0, 0] S1x64x576.size inb_S16x64x576_S1x64x576_3_0_0).toLoadRect (harg7.unread x5)) (View.readAt (Elt Ideal) arg7.view (Rect.unit (s := S16x64x576) ![4, 0, 0] S1x64x576.size inb_S16x64x576_S1x64x576_4_0_0).toLoadRect (harg7.unread x5)) (View.readAt (Elt Ideal) arg7.view (Rect.unit (s := S16x64x576) ![5, 0, 0] S1x64x576.size inb_S16x64x576_S1x64x576_5_0_0).toLoadRect (harg7.unread x5)) (View.readAt (Elt Ideal) arg7.view (Rect.unit (s := S16x64x576) ![6, 0, 0] S1x64x576.size inb_S16x64x576_S1x64x576_6_0_0).toLoadRect (harg7.unread x5)) (View.readAt (Elt Ideal) arg7.view (Rect.unit (s := S16x64x576) ![7, 0, 0] S1x64x576.size inb_S16x64x576_S1x64x576_7_0_0).toLoadRect (harg7.unread x5)) (View.readAt (Elt Ideal) arg7.view (Rect.unit (s := S16x64x576) ![8, 0, 0] S1x64x576.size inb_S16x64x576_S1x64x576_8_0_0).toLoadRect (harg7.unread x5)) (View.readAt (Elt Ideal) arg7.view (Rect.unit (s := S16x64x576) ![9, 0, 0] S1x64x576.size inb_S16x64x576_S1x64x576_9_0_0).toLoadRect (harg7.unread x5)) (View.readAt (Elt Ideal) arg7.view (Rect.unit (s := S16x64x576) ![10, 0, 0] S1x64x576.size inb_S16x64x576_S1x64x576_10_0_0).toLoadRect (harg7.unread x5)) (View.readAt (Elt Ideal) arg7.view (Rect.unit (s := S16x64x576) ![11, 0, 0] S1x64x576.size inb_S16x64x576_S1x64x576_11_0_0).toLoadRect (harg7.unread x5)) (View.readAt (Elt Ideal) arg7.view (Rect.unit (s := S16x64x576) ![12, 0, 0] S1x64x576.size inb_S16x64x576_S1x64x576_12_0_0).toLoadRect (harg7.unread x5)) (View.readAt (Elt Ideal) arg7.view (Rect.unit (s := S16x64x576) ![13, 0, 0] S1x64x576.size inb_S16x64x576_S1x64x576_13_0_0).toLoadRect (harg7.unread x5)) (View.readAt (Elt Ideal) arg7.view (Rect.unit (s := S16x64x576) ![14, 0, 0] S1x64x576.size inb_S16x64x576_S1x64x576_14_0_0).toLoadRect (harg7.unread x5)) (View.readAt (Elt Ideal) arg7.view (Rect.unit (s := S16x64x576) ![15, 0, 0] S1x64x576.size inb_S16x64x576_S1x64x576_15_0_0).toLoadRect (harg7.unread x5))
      (ix2 r ⟨64 * h.val + l.val, by omega⟩)
    = cell keep x0 x1 x2 x3 x4 x5 k r h l := by
  rw [bias_load arg7 harg7 x5 0 (by omega)]
  rw [bias_load arg7 harg7 x5 1 (by omega)]
  rw [bias_load arg7 harg7 x5 2 (by omega)]
  rw [bias_load arg7 harg7 x5 3 (by omega)]
  rw [bias_load arg7 harg7 x5 4 (by omega)]
  rw [bias_load arg7 harg7 x5 5 (by omega)]
  rw [bias_load arg7 harg7 x5 6 (by omega)]
  rw [bias_load arg7 harg7 x5 7 (by omega)]
  rw [bias_load arg7 harg7 x5 8 (by omega)]
  rw [bias_load arg7 harg7 x5 9 (by omega)]
  rw [bias_load arg7 harg7 x5 10 (by omega)]
  rw [bias_load arg7 harg7 x5 11 (by omega)]
  rw [bias_load arg7 harg7 x5 12 (by omega)]
  rw [bias_load arg7 harg7 x5 13 (by omega)]
  rw [bias_load arg7 harg7 x5 14 (by omega)]
  rw [bias_load arg7 harg7 x5 15 (by omega)]
  refine (chunk_at g (keep k) hg _ _ _ (biasOf x5) r h l).trans ?_
  unfold cell
  have hq : ∀ d : Fin 64, scaled (F := Ideal) (View.readAt (Elt Ideal) arg2.view (Rect.unit (s := S512x1024) off1 S64x1024.size inb1).toLoadRect (harg2.unread x0)) (ix2 r ⟨64 * h.val + d.val, by omega⟩)
      = @HMul.hMul EReal EReal EReal instHMul (x0 (ix2 ⟨64 * k.val + r.val, by omega⟩ ⟨64 * h.val + d.val, by omega⟩)) eighth := by
    intro d
    have e := row_load (S := S512x1024) arg2 (harg2.unread x0) off1 (64 * k.val) ho1 inb1 r ⟨64 * h.val + d.val, by omega⟩ (by omega)
    rw [harg2.read_unread] at e
    exact congrArg (fun z : EReal => @HMul.hMul EReal EReal EReal instHMul z eighth) e
  have hk : ∀ (j : Fin 576) (d : Fin 1024), View.readAt (Elt Ideal) arg9.view (Rect.unit (s := S1024x1024) off2 S576x1024.size inb2).toLoadRect X9 (ix2 j d)
      = rows x1 x2 (64 * k.val + j.val) (by omega) d := fun j d =>
    (row_load (S := S1024x1024) arg9 X9 off2 (64 * k.val) ho2 inb2 j d (by omega)).trans (h9 _ (by omega) d)
  have hv : ∀ (j : Fin 576) (d : Fin 1024), View.readAt (Elt Ideal) arg10.view (Rect.unit (s := S1024x1024) off2 S576x1024.size inb2).toLoadRect X10 (ix2 j d)
      = rows x3 x4 (64 * k.val + j.val) (by omega) d := fun j d =>
    (row_load (S := S1024x1024) arg10 X10 off2 (64 * k.val) ho2 inb2 j d (by omega)).trans (h10 _ (by omega) d)
  congr 1
  · funext j
    congr 1
    refine congrArg₂ (@HAdd.hAdd EReal EReal EReal instHAdd) (Finset.sum_congr rfl fun d _ => ?_) rfl
    exact congrArg₂ (@HMul.hMul EReal EReal EReal instHMul) (hq d) (hk j _)
  · funext j
    exact hv j _

end Cert.KernelIdeal.BandAttention

end
-- ==== Proof.Attn1A.lean ====
module

public import proofs.«01_k».proof.Proof.Attn1
public import Idealize.ShloMosaic.Lib.Claim
public import Idealize.ShloMosaic.Lib.Pipeline.ValueKit
public import Idealize.ShloMosaic.Lib.Pointwise

@[expose] public section

set_option maxRecDepth 16384

noncomputable section

namespace Cert.KernelIdeal.BandAttention

open Cert.KernelIdeal Cert.KernelIdeal.Gen Idealize.ShloMosaic Idealize.ShloMosaic.TcCoe Idealize.SL.Sem

variable {F : FTy → Type} [FloatOps F] [Named F]

set_option maxHeartbeats 4000000 in
/-- What trip `k` of the first loop stores. -/
theorem tripA (c : Dev nD) (i : grid0.Coords) (arg2 : Memref sig .tc .vmem S512x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S16x64x576 .f32) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1024x1024 .bf16) (harg10 : arg10.IsWhole)
    (h : k0_cond1 i = 1#1) (X_arg2 : BufTy.Contents (Elt F) arg2.view.ty) (X_arg7 : BufTy.Contents (Elt F) arg7.view.ty) (X_arg9 : BufTy.Contents (Elt F) arg9.view.ty) (X_arg10 : BufTy.Contents (Elt F) arg10.view.ty) (k : Fin k0_t1_loop.trips) :
    tripL_k0_t1 (F := F) Variants.none c none i arg2 harg2 arg3 harg3 arg4 harg4 arg5 harg5 arg6 harg6 arg7 harg7 arg8 harg8 arg9 harg9 arg10 harg10 h X_arg2 X_arg7 X_arg9 X_arg10 k
    = [⟨Rect.unit (s := S512x1024) (k0_off1 k) S64x1024.size (k0_off1_inb i k h),
        chunk (maskA k) (View.readAt (Elt F) arg2.view (Rect.unit (s := S512x1024) (k0_off1 k) S64x1024.size (k0_off1_inb i k h)).toLoadRect X_arg2)
          (View.readAt (Elt F) arg9.view (Rect.unit (s := S1024x1024) (k0_off2 k) S576x1024.size (k0_off2_inb i k h)).toLoadRect X_arg9)
          (View.readAt (Elt F) arg10.view (Rect.unit (s := S1024x1024) (k0_off2 k) S576x1024.size (k0_off2_inb i k h)).toLoadRect X_arg10)
          (View.readAt (Elt F) arg7.view (Rect.unit (s := S16x64x576) ![0, 0, 0] S1x64x576.size inb_S16x64x576_S1x64x576_0_0_0).toLoadRect X_arg7)
          (View.readAt (Elt F) arg7.view (Rect.unit (s := S16x64x576) ![1, 0, 0] S1x64x576.size inb_S16x64x576_S1x64x576_1_0_0).toLoadRect X_arg7)
          (View.readAt (Elt F) arg7.view (Rect.unit (s := S16x64x576) ![2, 0, 0] S1x64x576.size inb_S16x64x576_S1x64x576_2_0_0).toLoadRect X_arg7)
          (View.readAt (Elt F) arg7.view (Rect.unit (s := S16x64x576) ![3, 0, 0] S1x64x576.size inb_S16x64x576_S1x64x576_3_0_0).toLoadRect X_arg7)
          (View.readAt (Elt F) arg7.view (Rect.unit (s := S16x64x576) ![4, 0, 0] S1x64x576.size inb_S16x64x576_S1x64x576_4_0_0).toLoadRect X_arg7)
          (View.readAt (Elt F) arg7.view (Rect.unit (s := S16x64x576) ![5, 0, 0] S1x64x576.size inb_S16x64x576_S1x64x576_5_0_0).toLoadRect X_arg7)
          (View.readAt (Elt F) arg7.view (Rect.unit (s := S16x64x576) ![6, 0, 0] S1x64x576.size inb_S16x64x576_S1x64x576_6_0_0).toLoadRect X_arg7)
          (View.readAt (Elt F) arg7.view (Rect.unit (s := S16x64x576) ![7, 0, 0] S1x64x576.size inb_S16x64x576_S1x64x576_7_0_0).toLoadRect X_arg7)
          (View.readAt (Elt F) arg7.view (Rect.unit (s := S16x64x576) ![8, 0, 0] S1x64x576.size inb_S16x64x576_S1x64x576_8_0_0).toLoadRect X_arg7)
          (View.readAt (Elt F) arg7.view (Rect.unit (s := S16x64x576) ![9, 0, 0] S1x64x576.size inb_S16x64x576_S1x64x576_9_0_0).toLoadRect X_arg7)
          (View.readAt (Elt F) arg7.view (Rect.unit (s := S16x64x576) ![10, 0, 0] S1x64x576.size inb_S16x64x576_S1x64x576_10_0_0).toLoadRect X_arg7)
          (View.readAt (Elt F) arg7.view (Rect.unit (s := S16x64x576) ![11, 0, 0] S1x64x576.size inb_S16x64x576_S1x64x576_11_0_0).toLoadRect X_arg7)
          (View.readAt (Elt F) arg7.view (Rect.unit (s := S16x64x576) ![12, 0, 0] S1x64x576.size inb_S16x64x576_S1x64x576_12_0_0).toLoadRect X_arg7)
          (View.readAt (Elt F) arg7.view (Rect.unit (s := S16x64x576) ![13, 0, 0] S1x64x576.size inb_S16x64x576_S1x64x576_13_0_0).toLoadRect X_arg7)
          (View.readAt (Elt F) arg7.view (Rect.unit (s := S16x64x576) ![14, 0, 0] S1x64x576.size inb_S16x64x576_S1x64x576_14_0_0).toLoadRect X_arg7)
          (View.readAt (Elt F) arg7.view (Rect.unit (s := S16x64x576) ![15, 0, 0] S1x64x576.size inb_S16x64x576_S1x64x576_15_0_0).toLoadRect X_arg7)⟩] := by
  unfold tripL_k0_t1 trip_k0_t1
  dsimp only [trip_k0_t1.sl.v79, trip_k0_t1.sl.v67, trip_k0_t1.sl.r_7, trip_k0_t1.sl.r_2, trip_k0_t1.sl.r_36, trip_k0_t1.sl.r_12, trip_k0_t1.sl.r_3, trip_k0_t1.sl.v438, trip_k0_t1.sl.v47, trip_k0_t1.sl.cst_22, trip_k0_t1.sl.v108, trip_k0_t1.sl.r_10, trip_k0_t1.sl.r_25, trip_k0_t1.sl.v110, trip_k0_t1.sl.v97, trip_k0_t1.sl.r_18, trip_k0_t1.sl.r_27, trip_k0_t1.sl.r_37, trip_k0_t1.sl.v61, trip_k0_t1.sl.r_49, trip_k0_t1.sl.v91, trip_k0_t1.sl.v92, trip_k0_t1.sl.r_39, trip_k0_t1.sl.v84, trip_k0_t1.sl.r_43, trip_k0_t1.sl.r_9, trip_k0_t1.sl.v32, trip_k0_t1.sl.v80, trip_k0_t1.sl.cst_24, trip_k0_t1.sl.v66, trip_k0_t1.sl.v44, trip_k0_t1.sl.r_21, trip_k0_t1.sl.v122, trip_k0_t1.sl.r_24, trip_k0_t1.sl.v70, trip_k0_t1.sl.v48, trip_k0_t1.sl.r_33, trip_k0_t1.sl.v107, trip_k0_t1.sl.r_14, trip_k0_t1.sl.v35, trip_k0_t1.sl.r_5, trip_k0_t1.sl.v56, trip_k0_t1.sl.r_28, trip_k0_t1.sl.r_22, trip_k0_t1.sl.v113, trip_k0_t1.sl.r_29, trip_k0_t1.sl.v105, trip_k0_t1.sl.r_4, trip_k0_t1.sl.r_31, trip_k0_t1.sl.r_19, trip_k0_t1.sl.r_26, trip_k0_t1.sl.r_40, trip_k0_t1.sl.v117, trip_k0_t1.sl.r, trip_k0_t1.sl.v94, trip_k0_t1.sl.cst, trip_k0_t1.sl.v458, trip_k0_t1.sl.v30, trip_k0_t1.sl.r_44, trip_k0_t1.sl.r_20, trip_k0_t1.sl.v118, trip_k0_t1.sl.v53, trip_k0_t1.sl.r_41, trip_k0_t1.sl.v83, trip_k0_t1.sl.v119, trip_k0_t1.sl.r_48, trip_k0_t1.sl.v95, trip_k0_t1.sl.v100, trip_k0_t1.sl.v45, trip_k0_t1.sl.v54, trip_k0_t1.sl.v40, trip_k0_t1.sl.r_6, trip_k0_t1.sl.v121, trip_k0_t1.sl.v81, trip_k0_t1.sl.v109, trip_k0_t1.sl.v120, trip_k0_t1.sl.r_15, trip_k0_t1.sl.v42, trip_k0_t1.sl.r_32, trip_k0_t1.sl.v87, trip_k0_t1.sl.r_16, trip_k0_t1.sl.v65, trip_k0_t1.sl.r_8, trip_k0_t1.sl.r_13, trip_k0_t1.sl.v69, trip_k0_t1.sl.r_35, trip_k0_t1.sl.r_23, trip_k0_t1.sl.r_38, trip_k0_t1.sl.r_45, trip_k0_t1.sl.v46, trip_k0_t1.sl.r_11, trip_k0_t1.sl.v43, trip_k0_t1.sl.v123, trip_k0_t1.sl.r_46, trip_k0_t1.sl.v34, trip_k0_t1.sl.r_34, trip_k0_t1.sl.r_47, trip_k0_t1.sl.v58, trip_k0_t1.sl.v96, trip_k0_t1.sl.r_17, trip_k0_t1.sl.v41, trip_k0_t1.sl.r_42, trip_k0_t1.sl.v93, trip_k0_t1.sl.v104, trip_k0_t1.sl.v71, trip_k0_t1.sl.arg11, trip_k0_t1.sl.v57, trip_k0_t1.sl.v55, trip_k0_t1.sl.v106, trip_k0_t1.sl.r_1, trip_k0_t1.sl.r_30, trip_k0_t1.sl.v78, trip_k0_t1.sl.v68, trip_k0_t1.sl.v82, trip_k0_t1.sl.v74, trip_k0_t1.sl.v52, trip_k0_t1.sl.v448]
  dsimp only [k0_pay6, k0_pay7, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98]
  dsimp only [chunk, heads2, mix2, recip, expo, biased, score2, zero16, scaled, maskA, id, k0_pay7]
  rfl

end Cert.KernelIdeal.BandAttention

end
-- ==== Proof.Attn1B.lean ====
module

public import proofs.«01_k».proof.Proof.Attn1
public import Idealize.ShloMosaic.Lib.Claim
public import Idealize.ShloMosaic.Lib.Pipeline.ValueKit
public import Idealize.ShloMosaic.Lib.Pointwise

@[expose] public section

set_option maxRecDepth 16384

noncomputable section

namespace Cert.KernelIdeal.BandAttention

open Cert.KernelIdeal Cert.KernelIdeal.Gen Idealize.ShloMosaic Idealize.ShloMosaic.TcCoe Idealize.SL.Sem

variable {F : FTy → Type} [FloatOps F] [Named F]

set_option maxHeartbeats 4000000 in
/-- What trip `k` of the second loop stores. -/
theorem tripB (c : Dev nD) (i : grid0.Coords) (arg2 : Memref sig .tc .vmem S512x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S16x64x576 .f32) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1024x1024 .bf16) (harg10 : arg10.IsWhole)
    (h : k0_cond2 i = 1#1) (X_arg2 : BufTy.Contents (Elt F) arg2.view.ty) (X_arg7 : BufTy.Contents (Elt F) arg7.view.ty) (X_arg9 : BufTy.Contents (Elt F) arg9.view.ty) (X_arg10 : BufTy.Contents (Elt F) arg10.view.ty) (k : Fin k0_t2_loop.trips) :
    tripL_k0_t2 (F := F) Variants.none c none i arg2 harg2 arg3 harg3 arg4 harg4 arg5 harg5 arg6 harg6 arg7 harg7 arg8 harg8 arg9 harg9 arg10 harg10 h X_arg2 X_arg7 X_arg9 X_arg10 k
    = [⟨Rect.unit (s := S512x1024) (k0_off3 k) S64x1024.size (k0_off3_inb i k h),
        chunk id (View.readAt (Elt F) arg2.view (Rect.unit (s := S512x1024) (k0_off3 k) S64x1024.size (k0_off3_inb i k h)).toLoadRect X_arg2)
          (View.readAt (Elt F) arg9.view (Rect.unit (s := S1024x1024) (k0_off4 k) S576x1024.size (k0_off4_inb i k h)).toLoadRect X_arg9)
          (View.readAt (Elt F) arg10.view (Rect.unit (s := S1024x1024) (k0_off4 k) S576x1024.size (k0_off4_inb i k h)).toLoadRect X_arg10)
          (View.readAt (Elt F) arg7.view (Rect.unit (s := S16x64x576) ![0, 0, 0] S1x64x576.size inb_S16x64x576_S1x64x576_0_0_0).toLoadRect X_arg7)
          (View.readAt (Elt F) arg7.view (Rect.unit (s := S16x64x576) ![1, 0, 0] S1x64x576.size inb_S16x64x576_S1x64x576_1_0_0).toLoadRect X_arg7)
          (View.readAt (Elt F) arg7.view (Rect.unit (s := S16x64x576) ![2, 0, 0] S1x64x576.size inb_S16x64x576_S1x64x576_2_0_0).toLoadRect X_arg7)
          (View.readAt (Elt F) arg7.view (Rect.unit (s := S16x64x576) ![3, 0, 0] S1x64x576.size inb_S16x64x576_S1x64x576_3_0_0).toLoadRect X_arg7)
          (View.readAt (Elt F) arg7.view (Rect.unit (s := S16x64x576) ![4, 0, 0] S1x64x576.size inb_S16x64x576_S1x64x576_4_0_0).toLoadRect X_arg7)
          (View.readAt (Elt F) arg7.view (Rect.unit (s := S16x64x576) ![5, 0, 0] S1x64x576.size inb_S16x64x576_S1x64x576_5_0_0).toLoadRect X_arg7)
          (View.readAt (Elt F) arg7.view (Rect.unit (s := S16x64x576) ![6, 0, 0] S1x64x576.size inb_S16x64x576_S1x64x576_6_0_0).toLoadRect X_arg7)
          (View.readAt (Elt F) arg7.view (Rect.unit (s := S16x64x576) ![7, 0, 0] S1x64x576.size inb_S16x64x576_S1x64x576_7_0_0).toLoadRect X_arg7)
          (View.readAt (Elt F) arg7.view (Rect.unit (s := S16x64x576) ![8, 0, 0] S1x64x576.size inb_S16x64x576_S1x64x576_8_0_0).toLoadRect X_arg7)
          (View.readAt (Elt F) arg7.view (Rect.unit (s := S16x64x576) ![9, 0, 0] S1x64x576.size inb_S16x64x576_S1x64x576_9_0_0).toLoadRect X_arg7)
          (View.readAt (Elt F) arg7.view (Rect.unit (s := S16x64x576) ![10, 0, 0] S1x64x576.size inb_S16x64x576_S1x64x576_10_0_0).toLoadRect X_arg7)
          (View.readAt (Elt F) arg7.view (Rect.unit (s := S16x64x576) ![11, 0, 0] S1x64x576.size inb_S16x64x576_S1x64x576_11_0_0).toLoadRect X_arg7)
          (View.readAt (Elt F) arg7.view (Rect.unit (s := S16x64x576) ![12, 0, 0] S1x64x576.size inb_S16x64x576_S1x64x576_12_0_0).toLoadRect X_arg7)
          (View.readAt (Elt F) arg7.view (Rect.unit (s := S16x64x576) ![13, 0, 0] S1x64x576.size inb_S16x64x576_S1x64x576_13_0_0).toLoadRect X_arg7)
          (View.readAt (Elt F) arg7.view (Rect.unit (s := S16x64x576) ![14, 0, 0] S1x64x576.size inb_S16x64x576_S1x64x576_14_0_0).toLoadRect X_arg7)
          (View.readAt (Elt F) arg7.view (Rect.unit (s := S16x64x576) ![15, 0, 0] S1x64x576.size inb_S16x64x576_S1x64x576_15_0_0).toLoadRect X_arg7)⟩] := by
  unfold tripL_k0_t2 trip_k0_t2
  dsimp only [trip_k0_t2.sl.v51, trip_k0_t2.sl.v318, trip_k0_t2.sl.v30, trip_k0_t2.sl.v369, trip_k0_t2.sl.v286, trip_k0_t2.sl.v406, trip_k0_t2.sl.v150, trip_k0_t2.sl.v233, trip_k0_t2.sl.v385, trip_k0_t2.sl.v360, trip_k0_t2.sl.v243, trip_k0_t2.sl.v352, trip_k0_t2.sl.v50, trip_k0_t2.sl.v190, trip_k0_t2.sl.cst_22, trip_k0_t2.sl.v335, trip_k0_t2.sl.v285, trip_k0_t2.sl.v207, trip_k0_t2.sl.v198, trip_k0_t2.sl.v112, trip_k0_t2.sl.v359, trip_k0_t2.sl.v202, trip_k0_t2.sl.cst_49, trip_k0_t2.sl.v223, trip_k0_t2.sl.v321, trip_k0_t2.sl.cst_24, trip_k0_t2.sl.v293, trip_k0_t2.sl.v76, trip_k0_t2.sl.v275, trip_k0_t2.sl.v69, trip_k0_t2.sl.v251, trip_k0_t2.sl.v423, trip_k0_t2.sl.v169, trip_k0_t2.sl.v146, trip_k0_t2.sl.v273, trip_k0_t2.sl.v118, trip_k0_t2.sl.v239, trip_k0_t2.sl.v128, trip_k0_t2.sl.v204, trip_k0_t2.sl.v189, trip_k0_t2.sl.v324, trip_k0_t2.sl.v283, trip_k0_t2.sl.v41, trip_k0_t2.sl.v105, trip_k0_t2.sl.v228, trip_k0_t2.sl.v309, trip_k0_t2.sl.v62, trip_k0_t2.sl.v316, trip_k0_t2.sl.v428, trip_k0_t2.sl.v358, trip_k0_t2.sl.v121, trip_k0_t2.sl.v376, trip_k0_t2.sl.v79, trip_k0_t2.sl.v126, trip_k0_t2.sl.v92, trip_k0_t2.sl.v381, trip_k0_t2.sl.v266, trip_k0_t2.sl.v433, trip_k0_t2.sl.v250, trip_k0_t2.sl.v288, trip_k0_t2.sl.v396, trip_k0_t2.sl.v374, trip_k0_t2.sl.v139, trip_k0_t2.sl.v331, trip_k0_t2.sl.v424, trip_k0_t2.sl.v304, trip_k0_t2.sl.v49, trip_k0_t2.sl.v60, trip_k0_t2.sl.v231, trip_k0_t2.sl.v340, trip_k0_t2.sl.v334, trip_k0_t2.sl.v102, trip_k0_t2.sl.v402, trip_k0_t2.sl.v61, trip_k0_t2.sl.v269, trip_k0_t2.sl.v234, trip_k0_t2.sl.v314, trip_k0_t2.sl.v163, trip_k0_t2.sl.v148, trip_k0_t2.sl.v89, trip_k0_t2.sl.v74, trip_k0_t2.sl.v361, trip_k0_t2.sl.v412, trip_k0_t2.sl.v377, trip_k0_t2.sl.v100, trip_k0_t2.sl.v296, trip_k0_t2.sl.v408, trip_k0_t2.sl.v187, trip_k0_t2.sl.v211, trip_k0_t2.sl.v276, trip_k0_t2.sl.v249, trip_k0_t2.sl.v247, trip_k0_t2.sl.v387, trip_k0_t2.sl.v156, trip_k0_t2.sl.v401, trip_k0_t2.sl.v227, trip_k0_t2.sl.v290, trip_k0_t2.sl.v330, trip_k0_t2.sl.v307, trip_k0_t2.sl.v141, trip_k0_t2.sl.v350, trip_k0_t2.sl.v213, trip_k0_t2.sl.v218, trip_k0_t2.sl.v152, trip_k0_t2.sl.v380, trip_k0_t2.sl.v268, trip_k0_t2.sl.v194, trip_k0_t2.sl.v255, trip_k0_t2.sl.v238, trip_k0_t2.sl.v34, trip_k0_t2.sl.v103, trip_k0_t2.sl.v191, trip_k0_t2.sl.v173, trip_k0_t2.sl.v404, trip_k0_t2.sl.v356, trip_k0_t2.sl.v172, trip_k0_t2.sl.v421, trip_k0_t2.sl.v226, trip_k0_t2.sl.v341, trip_k0_t2.sl.v153, trip_k0_t2.sl.v379, trip_k0_t2.sl.v35, trip_k0_t2.sl.v138, trip_k0_t2.sl.v368, trip_k0_t2.sl.v264, trip_k0_t2.sl.v353, trip_k0_t2.sl.v302, trip_k0_t2.sl.v403, trip_k0_t2.sl.v130, trip_k0_t2.sl.v322, trip_k0_t2.sl.v329, trip_k0_t2.sl.v281, trip_k0_t2.sl.v333, trip_k0_t2.sl.v295, trip_k0_t2.sl.v383, trip_k0_t2.sl.v149, trip_k0_t2.sl.v77, trip_k0_t2.sl.v166, trip_k0_t2.sl.v116, trip_k0_t2.sl.v413, trip_k0_t2.sl.v220, trip_k0_t2.sl.v40, trip_k0_t2.sl.v400, trip_k0_t2.sl.v320, trip_k0_t2.sl.v159, trip_k0_t2.sl.cst_127, trip_k0_t2.sl.v348, trip_k0_t2.sl.v395, trip_k0_t2.sl.v178, trip_k0_t2.sl.v117, trip_k0_t2.sl.v114, trip_k0_t2.sl.v429, trip_k0_t2.sl.v203, trip_k0_t2.sl.v162, trip_k0_t2.sl.v384, trip_k0_t2.sl.v237, trip_k0_t2.sl.v181, trip_k0_t2.sl.v262, trip_k0_t2.sl.v127, trip_k0_t2.sl.v311, trip_k0_t2.sl.v205, trip_k0_t2.sl.cst_50, trip_k0_t2.sl.v289, trip_k0_t2.sl.v140, trip_k0_t2.sl.v32, trip_k0_t2.sl.v342, trip_k0_t2.sl.v354, trip_k0_t2.sl.v363, trip_k0_t2.sl.r_1, trip_k0_t2.sl.v252, trip_k0_t2.sl.v115, trip_k0_t2.sl.v411, trip_k0_t2.sl.v229, trip_k0_t2.sl.v397, trip_k0_t2.sl.v346, trip_k0_t2.sl.v125, trip_k0_t2.sl.v108, trip_k0_t2.sl.v143, trip_k0_t2.sl.v208, trip_k0_t2.sl.v161, trip_k0_t2.sl.v164, trip_k0_t2.sl.v91, trip_k0_t2.sl.v199, trip_k0_t2.sl.v230, trip_k0_t2.sl.v375, trip_k0_t2.sl.v244, trip_k0_t2.sl.v192, trip_k0_t2.sl.v355, trip_k0_t2.sl.v432, trip_k0_t2.sl.v328, trip_k0_t2.sl.v145, trip_k0_t2.sl.v317, trip_k0_t2.sl.v64, trip_k0_t2.sl.v303, trip_k0_t2.sl.v95, trip_k0_t2.sl.v56, trip_k0_t2.sl.v241, trip_k0_t2.sl.v188, trip_k0_t2.sl.v410, trip_k0_t2.sl.v393, trip_k0_t2.sl.v399, trip_k0_t2.sl.v357, trip_k0_t2.sl.v332, trip_k0_t2.sl.v294, trip_k0_t2.sl.v195, trip_k0_t2.sl.v260, trip_k0_t2.sl.v197, trip_k0_t2.sl.v405, trip_k0_t2.sl.v280, trip_k0_t2.sl.v386, trip_k0_t2.sl.v165, trip_k0_t2.sl.v278, trip_k0_t2.sl.v263, trip_k0_t2.sl.v242, trip_k0_t2.sl.v86, trip_k0_t2.sl.v151, trip_k0_t2.sl.v325, trip_k0_t2.sl.v419, trip_k0_t2.sl.v299, trip_k0_t2.sl.v306, trip_k0_t2.sl.v338, trip_k0_t2.sl.v292, trip_k0_t2.sl.v371, trip_k0_t2.sl.cst, trip_k0_t2.sl.v221, trip_k0_t2.sl.v142, trip_k0_t2.sl.v82, trip_k0_t2.sl.v113, trip_k0_t2.sl.v225, trip_k0_t2.sl.v270, trip_k0_t2.sl.v259, trip_k0_t2.sl.v370, trip_k0_t2.sl.v253, trip_k0_t2.sl.v154, trip_k0_t2.sl.v174, trip_k0_t2.sl.v179, trip_k0_t2.sl.v391, trip_k0_t2.sl.v407, trip_k0_t2.sl.v184, trip_k0_t2.sl.v265, trip_k0_t2.sl.v200, trip_k0_t2.sl.v389, trip_k0_t2.sl.v224, trip_k0_t2.sl.v344, trip_k0_t2.sl.v257, trip_k0_t2.sl.v367, trip_k0_t2.sl.r, trip_k0_t2.sl.v216, trip_k0_t2.sl.v382, trip_k0_t2.sl.v319, trip_k0_t2.sl.v305, trip_k0_t2.sl.v158, trip_k0_t2.sl.v101, trip_k0_t2.sl.v201, trip_k0_t2.sl.v267, trip_k0_t2.sl.v282, trip_k0_t2.sl.v425, trip_k0_t2.sl.v327, trip_k0_t2.sl.v312, trip_k0_t2.sl.v388, trip_k0_t2.sl.v134, trip_k0_t2.sl.v418, trip_k0_t2.sl.arg11, trip_k0_t2.sl.v373, trip_k0_t2.sl.v212, trip_k0_t2.sl.v168, trip_k0_t2.sl.v214, trip_k0_t2.sl.v52, trip_k0_t2.sl.v78, trip_k0_t2.sl.v279, trip_k0_t2.sl.v390, trip_k0_t2.sl.r_2, trip_k0_t2.sl.v415, trip_k0_t2.sl.v155, trip_k0_t2.sl.v87, trip_k0_t2.sl.v378, trip_k0_t2.sl.v291, trip_k0_t2.sl.v372, trip_k0_t2.sl.v308, trip_k0_t2.sl.v409, trip_k0_t2.sl.v398, trip_k0_t2.sl.v345, trip_k0_t2.sl.v351, trip_k0_t2.sl.v364, trip_k0_t2.sl.v210, trip_k0_t2.sl.v315, trip_k0_t2.sl.v301, trip_k0_t2.sl.v337, trip_k0_t2.sl.v47, trip_k0_t2.sl.v347, trip_k0_t2.sl.v362, trip_k0_t2.sl.v104, trip_k0_t2.sl.v42, trip_k0_t2.sl.v256, trip_k0_t2.sl.v240, trip_k0_t2.sl.v366, trip_k0_t2.sl.v417, trip_k0_t2.sl.v73, trip_k0_t2.sl.v99, trip_k0_t2.sl.v176, trip_k0_t2.sl.v426, trip_k0_t2.sl.v182, trip_k0_t2.sl.v63, trip_k0_t2.sl.v75, trip_k0_t2.sl.v422, trip_k0_t2.sl.v160, trip_k0_t2.sl.v65, trip_k0_t2.sl.v215, trip_k0_t2.sl.v254, trip_k0_t2.sl.v414, trip_k0_t2.sl.v66, trip_k0_t2.sl.v416, trip_k0_t2.sl.v431, trip_k0_t2.sl.v420, trip_k0_t2.sl.v277, trip_k0_t2.sl.v131, trip_k0_t2.sl.v53, trip_k0_t2.sl.v186, trip_k0_t2.sl.v43, trip_k0_t2.sl.v246, trip_k0_t2.sl.v185, trip_k0_t2.sl.v427, trip_k0_t2.sl.v175, trip_k0_t2.sl.v147, trip_k0_t2.sl.v90, trip_k0_t2.sl.v129, trip_k0_t2.sl.v236, trip_k0_t2.sl.v272, trip_k0_t2.sl.v217, trip_k0_t2.sl.v394, trip_k0_t2.sl.v177, trip_k0_t2.sl.v343, trip_k0_t2.sl.v430, trip_k0_t2.sl.cst_51, trip_k0_t2.sl.v298, trip_k0_t2.sl.v365, trip_k0_t2.sl.v88, trip_k0_t2.sl.v171, trip_k0_t2.sl.v48, trip_k0_t2.sl.v392]
  rfl

end Cert.KernelIdeal.BandAttention

end
-- ==== Proof.Attn5.lean ====
module

public import Idealize.ShloMosaic.Lib.WritesUnit
public import proofs.«01_k».proof.Proof.Attn4
public import proofs.«01_k».proof.Proof.Attn1A
public import proofs.«01_k».proof.Proof.Attn1B
public import Idealize.ShloMosaic.Lib.Claim
public import Idealize.ShloMosaic.Lib.Pipeline.ValueKit
public import Idealize.ShloMosaic.Lib.Pointwise

@[expose] public section

set_option maxRecDepth 16384

/-!
What each program leaves in its output block, at an index.
-/

noncomputable section

namespace Cert.KernelIdeal.BandAttention

open Cert.KernelIdeal Cert.KernelIdeal.Gen Idealize.ShloMosaic Idealize.ShloMosaic.TcCoe Idealize.SL.Sem

/-- Two stored halves of a scratch buffer read back as the two blocks' rows. -/
theorem halves_at (v : View sig .tc .vmem S1024x1024 .bf16) (f : BufTy.Contents (Elt Ideal) v.ty) (p c : Vec Ideal S512x1024 .f32)
    (wp wc : Vec Ideal S512x1024 .bf16) (hp : ∀ r d, wp (ix2 r d) = p (ix2 r d)) (hc : ∀ r d, wc (ix2 r d) = c (ix2 r d))
    (i : ℕ) (hi : i < 1024) (d : Fin 1024) :
    v.read (Elt Ideal) (v.writes (Elt Ideal) f [⟨Rect.unit (s := S1024x1024) ![512, 0] S512x1024.size inb_S1024x1024_S512x1024_512_0, wc⟩,
      ⟨Rect.unit (s := S1024x1024) ![0, 0] S512x1024.size inb_S1024x1024_S512x1024_0_0, wp⟩]) (ix2 ⟨i, hi⟩ d)
    = rows p c i hi d := by
  unfold rows
  by_cases h : i < 512
  · rw [dif_pos h]
    refine (View.read_writes_cons_rows_of_not_mem (d := S1024x1024.size) v f inb_S1024x1024_S512x1024_512_0 wc _ (ix2 ⟨i, hi⟩ d) rfl rfl (Or.inl h)).trans ?_
    refine (View.read_writes_cons_rows_of_mem (d := S1024x1024.size) v f inb_S1024x1024_S512x1024_0_0 wp _ (ix2 ⟨i, hi⟩ d) (ix2 ⟨i, h⟩ d) rfl (Nat.zero_add _).symm rfl).trans ?_
    exact hp _ _
  · rw [dif_neg h]
    refine (View.read_writes_cons_rows_of_mem (d := S1024x1024.size) v f inb_S1024x1024_S512x1024_512_0 wc _ (ix2 ⟨i, hi⟩ d) (ix2 ⟨i - 512, by omega⟩ d) rfl ?_ rfl).trans ?_
    · change i = 512 + (i - 512); omega
    · exact hc _ _

/-- A whole block loaded from a memref that holds it. -/
theorem block_load (arg : Memref sig .tc .vmem S512x1024 .f32) (harg : arg.IsWhole) (x : Vec Ideal S512x1024 .f32) (r : Fin 512) (d : Fin 1024) :
    View.readAt (Elt Ideal) arg.view (Rect.unit (s := S512x1024) ![0, 0] S512x1024.size inb_S512x1024_S512x1024_0_0).toLoadRect (harg.unread x) (ix2 r d) = x (ix2 r d) := by
  have e := row_load (S := S512x1024) arg (harg.unread x) ![0, 0] 0 rfl inb_S512x1024_S512x1024_0_0 r d (by omega)
  rw [harg.read_unread] at e
  refine e.trans (congrArg x ?_)
  exact congrArg (fun z => ix2 z d) (Fin.ext (Nat.zero_add _))

theorem pay1_at (v : Vec Ideal S512x1024 .f32) (r : Fin 512) (d : Fin 1024) : k0_pay1 (F := Ideal) v (ix2 r d) = v (ix2 r d) := by
  pointwise [k0_pay1]
theorem pay2_at (v : Vec Ideal S512x1024 .f32) (r : Fin 512) (d : Fin 1024) : k0_pay2 (F := Ideal) v (ix2 r d) = v (ix2 r d) := by
  pointwise [k0_pay2]
theorem pay3_at (v : Vec Ideal S512x1024 .f32) (r : Fin 512) (d : Fin 1024) : k0_pay3 (F := Ideal) v (ix2 r d) = v (ix2 r d) := by
  pointwise [k0_pay3]
theorem pay4_at (v : Vec Ideal S512x1024 .f32) (r : Fin 512) (d : Fin 1024) : k0_pay4 (F := Ideal) v (ix2 r d) = v (ix2 r d) := by
  pointwise [k0_pay4]

/-- Keys kept in the first program of a row of the grid: those not before the start. -/
def keepA (k : Fin 8) (j : Fin 576) : Prop := 512 ≤ k.val * 64 + j.val
instance (k : Fin 8) : DecidablePred (keepA k) := fun j => inferInstanceAs (Decidable (512 ≤ k.val * 64 + j.val))
/-- Every key is kept in the other programs. -/
def keepB (k : Fin 8) (j : Fin 576) : Prop := True
instance (k : Fin 8) : DecidablePred (keepB k) := fun j => inferInstanceAs (Decidable True)

/-- An index of a chunk's output by its row, head and lane. -/
theorem idx_split (x : S64x1024.Idx) : ∃ (r : Fin 64) (h : Fin 16) (l : Fin 64), x = ix2 r ⟨64 * h.val + l.val, by omega⟩ := by
  have hx0 : (x 0).val < 64 := (x 0).isLt
  have hx1 : (x 1).val < 1024 := (x 1).isLt
  refine ⟨⟨(x 0).val, hx0⟩, ⟨(x 1).val / 64, by omega⟩, ⟨(x 1).val % 64, by omega⟩, funext fun a => Fin.ext ?_⟩
  match a with
  | ⟨0, _⟩ => rfl
  | ⟨1, _⟩ => change (x 1).val = 64 * ((x 1).val / 64) + (x 1).val % 64; omega

/-- The chunk a trip stores, is the piece of the block it covers, from what the buffers hold. -/
theorem piece_at (g : FVec Ideal S64x576 .f32 → FVec Ideal S64x576 .f32) (keep : Fin 8 → Fin 576 → Prop) [∀ k, DecidablePred (keep k)] (k : Fin 8)
    (hg : ∀ (s : FVec Ideal S64x576 .f32) r j, g s (ix2 r j) = if keep k j then s (ix2 r j) else ⊥)
    (arg2 : Memref sig .tc .vmem S512x1024 .bf16) (harg2 : arg2.IsWhole) (arg7 : Memref sig .tc .vmem S16x64x576 .f32) (harg7 : arg7.IsWhole)
    (arg9 : Memref sig .tc .vmem S1024x1024 .bf16) (arg10 : Memref sig .tc .vmem S1024x1024 .bf16)
    (X9 : BufTy.Contents (Elt Ideal) arg9.view.ty) (X10 : BufTy.Contents (Elt Ideal) arg10.view.ty)
    (x0 : Vec Ideal S512x1024 .bf16) (x1 x2 x3 x4 : Vec Ideal S512x1024 .f32) (x5 : Vec Ideal S16x64x576 .f32)
    (h9 : ∀ (i : ℕ) (hi : i < 1024) (d : Fin 1024), arg9.view.read (Elt Ideal) X9 (ix2 ⟨i, hi⟩ d) = rows x1 x2 i hi d)
    (h10 : ∀ (i : ℕ) (hi : i < 1024) (d : Fin 1024), arg10.view.read (Elt Ideal) X10 (ix2 ⟨i, hi⟩ d) = rows x3 x4 i hi d)
    (off1 off2 : Fin 2 → ℕ) (ho1 : off1 = ![64 * k.val, 0]) (ho2 : off2 = ![64 * k.val, 0])
    (inb1 : ∀ a, off1 a + S64x1024.size a ≤ S512x1024.size a) (inb2 : ∀ a, off2 a + S576x1024.size a ≤ S1024x1024.size a)
    (x : S64x1024.Idx) :
    chunk g (View.readAt (Elt Ideal) arg2.view (Rect.unit (s := S512x1024) off1 S64x1024.size inb1).toLoadRect (harg2.unread x0))
      (View.readAt (Elt Ideal) arg9.view (Rect.unit (s := S1024x1024) off2 S576x1024.size inb2).toLoadRect X9)
      (View.readAt (Elt Ideal) arg10.view (Rect.unit (s := S1024x1024) off2 S576x1024.size inb2).toLoadRect X10)
      (View.readAt (Elt Ideal) arg7.view (Rect.unit (s := S16x64x576) ![0, 0, 0] S1x64x576.size inb_S16x64x576_S1x64x576_0_0_0).toLoadRect (harg7.unread x5)) (View.readAt (Elt Ideal) arg7.view (Rect.unit (s := S16x64x576) ![1, 0, 0] S1x64x576.size inb_S16x64x576_S1x64x576_1_0_0).toLoadRect (harg7.unread x5)) (View.readAt (Elt Ideal) arg7.view (Rect.unit (s := S16x64x576) ![2, 0, 0] S1x64x576.size inb_S16x64x576_S1x64x576_2_0_0).toLoadRect (harg7.unread x5)) (View.readAt (Elt Ideal) arg7.view (Rect.unit (s := S16x64x576) ![3, 0, 0] S1x64x576.size inb_S16x64x576_S1x64x576_3_0_0).toLoadRect (harg7.unread x5)) (View.readAt (Elt Ideal) arg7.view (Rect.unit (s := S16x64x576) ![4, 0, 0] S1x64x576.size inb_S16x64x576_S1x64x576_4_0_0).toLoadRect (harg7.unread x5)) (View.readAt (Elt Ideal) arg7.view (Rect.unit (s := S16x64x576) ![5, 0, 0] S1x64x576.size inb_S16x64x576_S1x64x576_5_0_0).toLoadRect (harg7.unread x5)) (View.readAt (Elt Ideal) arg7.view (Rect.unit (s := S16x64x576) ![6, 0, 0] S1x64x576.size inb_S16x64x576_S1x64x576_6_0_0).toLoadRect (harg7.unread x5)) (View.readAt (Elt Ideal) arg7.view (Rect.unit (s := S16x64x576) ![7, 0, 0] S1x64x576.size inb_S16x64x576_S1x64x576_7_0_0).toLoadRect (harg7.unread x5)) (View.readAt (Elt Ideal) arg7.view (Rect.unit (s := S16x64x576) ![8, 0, 0] S1x64x576.size inb_S16x64x576_S1x64x576_8_0_0).toLoadRect (harg7.unread x5)) (View.readAt (Elt Ideal) arg7.view (Rect.unit (s := S16x64x576) ![9, 0, 0] S1x64x576.size inb_S16x64x576_S1x64x576_9_0_0).toLoadRect (harg7.unread x5)) (View.readAt (Elt Ideal) arg7.view (Rect.unit (s := S16x64x576) ![10, 0, 0] S1x64x576.size inb_S16x64x576_S1x64x576_10_0_0).toLoadRect (harg7.unread x5)) (View.readAt (Elt Ideal) arg7.view (Rect.unit (s := S16x64x576) ![11, 0, 0] S1x64x576.size inb_S16x64x576_S1x64x576_11_0_0).toLoadRect (harg7.unread x5)) (View.readAt (Elt Ideal) arg7.view (Rect.unit (s := S16x64x576) ![12, 0, 0] S1x64x576.size inb_S16x64x576_S1x64x576_12_0_0).toLoadRect (harg7.unread x5)) (View.readAt (Elt Ideal) arg7.view (Rect.unit (s := S16x64x576) ![13, 0, 0] S1x64x576.size inb_S16x64x576_S1x64x576_13_0_0).toLoadRect (harg7.unread x5)) (View.readAt (Elt Ideal) arg7.view (Rect.unit (s := S16x64x576) ![14, 0, 0] S1x64x576.size inb_S16x64x576_S1x64x576_14_0_0).toLoadRect (harg7.unread x5)) (View.readAt (Elt Ideal) arg7.view (Rect.unit (s := S16x64x576) ![15, 0, 0] S1x64x576.size inb_S16x64x576_S1x64x576_15_0_0).toLoadRect (harg7.unread x5))
      x = cellAt keep x0 x1 x2 x3 x4 x5 ((Rect.unit (s := S512x1024) off1 S64x1024.size inb1).emb x) := by
  obtain ⟨r, h, l, rfl⟩ := idx_split x
  refine (trip_at g keep k hg arg2 harg2 arg7 harg7 arg9 arg10 X9 X10 x0 x1 x2 x3 x4 x5 h9 h10 off1 off2 ho1 ho2 inb1 inb2 r h l).trans ?_
  refine (cellAt_of keep x0 x1 x2 x3 x4 x5 _ k r h l ?_ ?_).symm
  · change off1 0 + 1 * r.val = 64 * k.val + r.val
    rw [ho1]; change 64 * k.val + 1 * r.val = _; omega
  · change off1 1 + 1 * (64 * h.val + l.val) = 64 * h.val + l.val
    rw [ho1]; change 0 + 1 * (64 * h.val + l.val) = _; omega

/-- A stored piece of the first loop is the piece of one of its trips. -/
theorem mem_pbA (c : Dev nD) (i : grid0.Coords) (arg2 : Memref sig .tc .vmem S512x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S16x64x576 .f32) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1024x1024 .bf16) (harg10 : arg10.IsWhole)
    (hc : k0_cond1 i = 1#1) (X2 : BufTy.Contents (Elt Ideal) arg2.view.ty) (X7 : BufTy.Contents (Elt Ideal) arg7.view.ty) (X9 : BufTy.Contents (Elt Ideal) arg9.view.ty) (X10 : BufTy.Contents (Elt Ideal) arg10.view.ty)
    (p : View.Piece (Elt Ideal) S512x1024 .bf16) : ∀ n : ℕ, n ≤ k0_t1_loop.trips →
    p ∈ pb_k0_t1 (F := Ideal) Variants.none c none i arg2 harg2 arg3 harg3 arg4 harg4 arg5 harg5 arg6 harg6 arg7 harg7 arg8 harg8 arg9 harg9 arg10 harg10 hc X2 X7 X9 X10 n →
    ∃ k, p ∈ tripL_k0_t1 (F := Ideal) Variants.none c none i arg2 harg2 arg3 harg3 arg4 harg4 arg5 harg5 arg6 harg6 arg7 harg7 arg8 harg8 arg9 harg9 arg10 harg10 hc X2 X7 X9 X10 k := by
  intro n
  induction n with
  | zero => intro _ h; exact absurd h List.not_mem_nil
  | succ n ih =>
    intro hn h
    have e := pb_k0_t1_succ (F := Ideal) Variants.none c none i arg2 harg2 arg3 harg3 arg4 harg4 arg5 harg5 arg6 harg6 arg7 harg7 arg8 harg8 arg9 harg9 arg10 harg10 hc X2 X7 X9 X10 ⟨n, hn⟩
    have h' := (congrArg (fun L => p ∈ L) e).mp h
    rcases List.mem_append.mp h' with h1 | h1
    · exact ⟨_, h1⟩
    · exact ih (Nat.le_of_succ_le hn) h1

theorem off1_eq : ∀ k : Fin k0_t1_loop.trips, k0_off1 k = ![64 * k.val, 0] := by decide +kernel
theorem off2_eq : ∀ k : Fin k0_t1_loop.trips, k0_off2 k = ![64 * k.val, 0] := by decide +kernel

set_option maxHeartbeats 1000000 in
/-- What a program of the first column of the grid leaves in its output block, at an index. -/
theorem outA_at (c : Dev nD) (i : grid0.Coords) (arg2 : Memref sig .tc .vmem S512x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S16x64x576 .f32) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1024x1024 .bf16) (harg10 : arg10.IsWhole) (hc0 : cond0_0 i) (hc1 : ¬cond0_1 i)
    (x0 : Vec Ideal S512x1024 .bf16) (x1 : Vec Ideal S512x1024 .f32) (x2 : Vec Ideal S512x1024 .f32) (x3 : Vec Ideal S512x1024 .f32) (x4 : Vec Ideal S512x1024 .f32) (x5 : Vec Ideal S16x64x576 .f32) (y : S512x1024.Idx) :
    out0_A_6 (F := Ideal) c i arg2 harg2 arg3 harg3 arg4 harg4 arg5 harg5 arg6 harg6 arg7 harg7 arg8 harg8 arg9 harg9 arg10 harg10 hc0 hc1 x0 x1 x2 x3 x4 x5 y = cellAt keepA x0 x1 x2 x3 x4 x5 y := by
  unfold out0_A_6
  refine View.read_writes_apply_of_pieces VO0_6 _ (cellAt keepA x0 x1 x2 x3 x4 x5) _ ?_ y (cover0_A_6 c i arg2 harg2 arg3 harg3 arg4 harg4 arg5 harg5 arg6 harg6 arg7 harg7 arg8 harg8 arg9 harg9 arg10 harg10 hc0 hc1 x0 x1 x2 x3 x4 x5 y)
  unfold kernelRun0_A
  dsimp only
  intro p hp
  obtain ⟨k, hk⟩ := mem_pbA c i arg2 harg2 arg3 harg3 arg4 harg4 arg5 harg5 arg6 harg6 arg7 harg7 arg8 harg8 arg9 harg9 arg10 harg10 hc0 _ _ _ _ p _ (le_of_eq (by decide)) hp
  rw [tripA] at hk
  obtain rfl := List.mem_singleton.mp hk
  have hk8 : k.val < 8 := lt_of_lt_of_eq k.isLt (by decide)
  refine piece_at (maskA k) keepA ⟨k.val, hk8⟩ (fun s r j => maskA_at k s r j) arg2 harg2 arg7 harg7 arg9 arg10 _ _ x0 x1 x2 x3 x4 x5 ?_ ?_ _ _ (off1_eq k) (off2_eq k) _ _
  · intro i hi d
    exact halves_at arg9.view _ x1 x2 _ _ (fun r d => (pay1_at _ r d).trans (block_load arg3 harg3 x1 r d)) (fun r d => (pay2_at _ r d).trans (block_load arg4 harg4 x2 r d)) i hi d
  · intro i hi d
    exact halves_at arg10.view _ x3 x4 _ _ (fun r d => (pay3_at _ r d).trans (block_load arg5 harg5 x3 r d)) (fun r d => (pay4_at _ r d).trans (block_load arg6 harg6 x4 r d)) i hi d

/-- A stored piece of the second loop is the piece of one of its trips. -/
theorem mem_pbB (c : Dev nD) (i : grid0.Coords) (arg2 : Memref sig .tc .vmem S512x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S16x64x576 .f32) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1024x1024 .bf16) (harg10 : arg10.IsWhole)
    (hc : k0_cond2 i = 1#1) (X2 : BufTy.Contents (Elt Ideal) arg2.view.ty) (X7 : BufTy.Contents (Elt Ideal) arg7.view.ty) (X9 : BufTy.Contents (Elt Ideal) arg9.view.ty) (X10 : BufTy.Contents (Elt Ideal) arg10.view.ty)
    (p : View.Piece (Elt Ideal) S512x1024 .bf16) : ∀ n : ℕ, n ≤ k0_t2_loop.trips →
    p ∈ pb_k0_t2 (F := Ideal) Variants.none c none i arg2 harg2 arg3 harg3 arg4 harg4 arg5 harg5 arg6 harg6 arg7 harg7 arg8 harg8 arg9 harg9 arg10 harg10 hc X2 X7 X9 X10 n →
    ∃ k, p ∈ tripL_k0_t2 (F := Ideal) Variants.none c none i arg2 harg2 arg3 harg3 arg4 harg4 arg5 harg5 arg6 harg6 arg7 harg7 arg8 harg8 arg9 harg9 arg10 harg10 hc X2 X7 X9 X10 k := by
  intro n
  induction n with
  | zero => intro _ h; exact absurd h List.not_mem_nil
  | succ n ih =>
    intro hn h
    have e := pb_k0_t2_succ (F := Ideal) Variants.none c none i arg2 harg2 arg3 harg3 arg4 harg4 arg5 harg5 arg6 harg6 arg7 harg7 arg8 harg8 arg9 harg9 arg10 harg10 hc X2 X7 X9 X10 ⟨n, hn⟩
    have h' := (congrArg (fun L => p ∈ L) e).mp h
    rcases List.mem_append.mp h' with h1 | h1
    · exact ⟨_, h1⟩
    · exact ih (Nat.le_of_succ_le hn) h1

theorem off3_eq : ∀ k : Fin k0_t2_loop.trips, k0_off3 k = ![64 * k.val, 0] := by decide +kernel
theorem off4_eq : ∀ k : Fin k0_t2_loop.trips, k0_off4 k = ![64 * k.val, 0] := by decide +kernel

set_option maxHeartbeats 1000000 in
/-- What a program of another column of the grid leaves in its output block, at an index. -/
theorem outB_at (c : Dev nD) (i : grid0.Coords) (arg2 : Memref sig .tc .vmem S512x1024 .bf16) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S16x64x576 .f32) (harg7 : arg7.IsWhole) (arg8 : Memref sig .tc .vmem S512x1024 .bf16) (harg8 : arg8.IsWhole) (arg9 : Memref sig .tc .vmem S1024x1024 .bf16) (harg9 : arg9.IsWhole) (arg10 : Memref sig .tc .vmem S1024x1024 .bf16) (harg10 : arg10.IsWhole) (hc0 : ¬cond0_0 i) (hc1 : cond0_1 i)
    (x0 : Vec Ideal S512x1024 .bf16) (x1 : Vec Ideal S512x1024 .f32) (x2 : Vec Ideal S512x1024 .f32) (x3 : Vec Ideal S512x1024 .f32) (x4 : Vec Ideal S512x1024 .f32) (x5 : Vec Ideal S16x64x576 .f32) (y : S512x1024.Idx) :
    out0_B_6 (F := Ideal) c i arg2 harg2 arg3 harg3 arg4 harg4 arg5 harg5 arg6 harg6 arg7 harg7 arg8 harg8 arg9 harg9 arg10 harg10 hc0 hc1 x0 x1 x2 x3 x4 x5 y = cellAt keepB x0 x1 x2 x3 x4 x5 y := by
  unfold out0_B_6
  refine View.read_writes_apply_of_pieces VO0_6 _ (cellAt keepB x0 x1 x2 x3 x4 x5) _ ?_ y (cover0_B_6 c i arg2 harg2 arg3 harg3 arg4 harg4 arg5 harg5 arg6 harg6 arg7 harg7 arg8 harg8 arg9 harg9 arg10 harg10 hc0 hc1 x0 x1 x2 x3 x4 x5 y)
  unfold kernelRun0_B
  dsimp only
  intro p hp
  obtain ⟨k, hk⟩ := mem_pbB c i arg2 harg2 arg3 harg3 arg4 harg4 arg5 harg5 arg6 harg6 arg7 harg7 arg8 harg8 arg9 harg9 arg10 harg10 hc1 _ _ _ _ p _ (le_of_eq (by decide)) hp
  rw [tripB] at hk
  obtain rfl := List.mem_singleton.mp hk
  have hk8 : k.val < 8 := lt_of_lt_of_eq k.isLt (by decide)
  refine piece_at id keepB ⟨k.val, hk8⟩ (fun s r j => (if_pos trivial).symm) arg2 harg2 arg7 harg7 arg9 arg10 _ _ x0 x1 x2 x3 x4 x5 ?_ ?_ _ _ (off3_eq k) (off4_eq k) _ _
  · intro i hi d
    exact halves_at arg9.view _ x1 x2 _ _ (fun r d => (pay1_at _ r d).trans (block_load arg3 harg3 x1 r d)) (fun r d => (pay2_at _ r d).trans (block_load arg4 harg4 x2 r d)) i hi d
  · intro i hi d
    exact halves_at arg10.view _ x3 x4 _ _ (fun r d => (pay3_at _ r d).trans (block_load arg5 harg5 x3 r d)) (fun r d => (pay4_at _ r d).trans (block_load arg6 harg6 x4 r d)) i hi d

end Cert.KernelIdeal.BandAttention

end
-- ==== Proof.Attn6.lean ====
module

public import proofs.«01_k».proof.Proof.Attn5
public import Idealize.ShloMosaic.Lib.Claim
public import Idealize.ShloMosaic.Lib.Pipeline.ValueKit
public import Idealize.ShloMosaic.Lib.Pointwise

@[expose] public section

set_option maxRecDepth 16384

/-!
Which elements of the arguments a program reads, and its output block from them.
-/

noncomputable section

namespace Cert.KernelIdeal.BandAttention

open Cert.KernelIdeal Cert.KernelIdeal.Gen Idealize.ShloMosaic Idealize.ShloMosaic.TcCoe Idealize.SL.Sem

open Idealize.ShloMosaic.Pipeline (Dat)

variable (m : (ℓ : Loc nD τ sig) → Buf (Elt Ideal) ℓ)

/-- The block index of every window at every grid point. -/
theorem idx : ∀ t : Fin cfg0.N, win0_0.index t = ![t.val, 0] ∧ win0_1.index t = ![if t.val % 8 = 0 then t.val else t.val - 1, 0]
    ∧ win0_2.index t = ![t.val, 0] ∧ win0_3.index t = ![if t.val % 8 = 0 then t.val else t.val - 1, 1] ∧ win0_4.index t = ![t.val, 1]
    ∧ win0_5.index t = ![0, 0, 0] ∧ win0_6.index t = ![t.val, 0] :=
  (by decide +kernel : ∀ t : Fin grid0.N, _)

/-- Reading each input block at an index: which element of which argument it is. -/
theorem blk0 (c : Dev nD) (t : Fin cfg0.N) (r : Fin 512) (l : Fin 1024) (h : (t.val * 512 + r.val) < 65536) :
    (iblk m c 0 t : Vec Ideal S512x1024 .bf16) (ix2 r l) = m ((c : Thread nD τ).loc main_arg0) (ix2 ⟨t.val * 512 + r.val, h⟩ ⟨l.val, by omega⟩) := by
  blk_ext [iblk, V, idx t]
theorem blk1 (c : Dev nD) (t : Fin cfg0.N) (ht : ¬ t.val % 8 = 0) (r : Fin 512) (l : Fin 1024) (h : ((t.val - 1) * 512 + r.val) < 65536) :
    (iblk m c 1 t : Vec Ideal S512x1024 .f32) (ix2 r l) = m ((c : Thread nD τ).loc main_arg1) (ix2 ⟨(t.val - 1) * 512 + r.val, h⟩ ⟨l.val, by omega⟩) := by
  have e : win0_1.index t = ![t.val - 1, 0] := (idx t).2.1.trans (by rw [if_neg ht])
  blk_ext [iblk, V, e]
theorem blk2 (c : Dev nD) (t : Fin cfg0.N) (r : Fin 512) (l : Fin 1024) (h : (t.val * 512 + r.val) < 65536) :
    (iblk m c 2 t : Vec Ideal S512x1024 .f32) (ix2 r l) = m ((c : Thread nD τ).loc main_arg1) (ix2 ⟨t.val * 512 + r.val, h⟩ ⟨l.val, by omega⟩) := by
  blk_ext [iblk, V, idx t]
theorem blk3 (c : Dev nD) (t : Fin cfg0.N) (ht : ¬ t.val % 8 = 0) (r : Fin 512) (l : Fin 1024) (h : ((t.val - 1) * 512 + r.val) < 65536) :
    (iblk m c 3 t : Vec Ideal S512x1024 .f32) (ix2 r l) = m ((c : Thread nD τ).loc main_arg1) (ix2 ⟨(t.val - 1) * 512 + r.val, h⟩ ⟨1024 + l.val, by omega⟩) := by
  have e : win0_3.index t = ![t.val - 1, 1] := (idx t).2.2.2.1.trans (by rw [if_neg ht])
  blk_ext [iblk, V, e]
theorem blk4 (c : Dev nD) (t : Fin cfg0.N) (r : Fin 512) (l : Fin 1024) (h : (t.val * 512 + r.val) < 65536) :
    (iblk m c 4 t : Vec Ideal S512x1024 .f32) (ix2 r l) = m ((c : Thread nD τ).loc main_arg1) (ix2 ⟨t.val * 512 + r.val, h⟩ ⟨1024 + l.val, by omega⟩) := by
  blk_ext [iblk, V, idx t]

/-- The two key blocks of a program hold 1024 consecutive rows of the array, the rows before the start apart. -/
theorem rows_k (c : Dev nD) (t : Fin cfg0.N) (i : ℕ) (hi : i < 1024) (hk : t.val % 8 = 0 → 512 ≤ i) (d : Fin 1024) (h : t.val * 512 + i - 512 < 65536) :
    rows (iblk m c 1 t) (iblk m c 2 t) i hi d = m ((c : Thread nD τ).loc main_arg1) (ix2 ⟨t.val * 512 + i - 512, h⟩ ⟨d.val, by omega⟩) := by
  unfold rows
  by_cases hlt : i < 512
  · rw [dif_pos hlt]
    have h8 : ¬ t.val % 8 = 0 := fun e => absurd (hk e) (by omega)
    rw [blk1 m c t h8 _ _ (by dsimp only; omega)]
    exact congrArg (fun z => m ((c : Thread nD τ).loc main_arg1) (ix2 z ⟨d.val, by omega⟩)) (Fin.ext (by dsimp only; omega))
  · rw [dif_neg hlt]
    rw [blk2 m c t _ _ (by dsimp only; omega)]
    exact congrArg (fun z => m ((c : Thread nD τ).loc main_arg1) (ix2 z ⟨d.val, by omega⟩)) (Fin.ext (by dsimp only; omega))

theorem rows_v (c : Dev nD) (t : Fin cfg0.N) (i : ℕ) (hi : i < 1024) (hk : t.val % 8 = 0 → 512 ≤ i) (d : Fin 1024) (h : t.val * 512 + i - 512 < 65536) :
    rows (iblk m c 3 t) (iblk m c 4 t) i hi d = m ((c : Thread nD τ).loc main_arg1) (ix2 ⟨t.val * 512 + i - 512, h⟩ ⟨1024 + d.val, by omega⟩) := by
  unfold rows
  by_cases hlt : i < 512
  · rw [dif_pos hlt]
    have h8 : ¬ t.val % 8 = 0 := fun e => absurd (hk e) (by omega)
    rw [blk3 m c t h8 _ _ (by dsimp only; omega)]
    exact congrArg (fun z => m ((c : Thread nD τ).loc main_arg1) (ix2 z ⟨1024 + d.val, by omega⟩)) (Fin.ext (by dsimp only; omega))
  · rw [dif_neg hlt]
    rw [blk4 m c t _ _ (by dsimp only; omega)]
    exact congrArg (fun z => m ((c : Thread nD τ).loc main_arg1) (ix2 z ⟨1024 + d.val, by omega⟩)) (Fin.ext (by dsimp only; omega))

/-- What the programs leave in the output block at an index, from the blocks of the arguments. -/
theorem out_A (c : Dev nD) (t : Fin cfg0.N) (h0 : t.val % 8 = 0) (y : S512x1024.Idx) :
    (outsAt0 m c t.val t.isLt : Vec Ideal S512x1024 .bf16) y = cellAt keepA (iblk m c 0 t) (iblk m c 1 t) (iblk m c 2 t) (iblk m c 3 t) (iblk m c 4 t) (iblk m c 5 t) y := by
  rw [outsAt0_A m c t h0 (by omega)]
  exact outA_at ..
theorem out_B (c : Dev nD) (t : Fin cfg0.N) (h0 : ¬ t.val % 8 = 0) (y : S512x1024.Idx) :
    (outsAt0 m c t.val t.isLt : Vec Ideal S512x1024 .bf16) y = cellAt keepB (iblk m c 0 t) (iblk m c 1 t) (iblk m c 2 t) (iblk m c 3 t) (iblk m c 4 t) (iblk m c 5 t) y := by
  rw [outsAt0_B m c t h0 (by omega)]
  exact outB_at ..

end Cert.KernelIdeal.BandAttention

end
-- ==== Proof.Attn7.lean ====
module

public import proofs.«01_k».proof.Proof.Attn6
public import proofs.«01_k».proof.Proof.Gen.ReferenceIdeal.Read
public import Idealize.ShloMosaic.Lib.StableHlo.RunRead
public import Idealize.ShloMosaic.Lib.Claim
public import Idealize.ShloMosaic.Lib.Pipeline.ValueKit
public import Idealize.ShloMosaic.Lib.Pointwise

@[expose] public section

set_option maxRecDepth 16384

/-!
# The bias block of the banded attention

  The bias array is laid out by host operations before the launch: a gather of the table along the diagonals, one slice
  per query row, and the slices joined. The reference lays it out by the same operations, so the two are equal array by
  array.
-/

noncomputable section

namespace Cert.KernelIdeal.BandAttention

open Cert.KernelIdeal Cert.KernelIdeal.Gen Idealize.ShloMosaic Idealize.ShloMosaic.TcCoe Idealize.SL.Sem

/-! ## The bias array the launch reads -/

/-- The operations that run before the launch. -/
abbrev hostLine : List (HloOp τ sig (Elt Ideal)) := hostOps0 ++ (hostOps0_1 ++ hostOps0_2)

/-- Those that gather the table along the diagonals. -/
abbrev headLine : List (HloOp τ sig (Elt Ideal)) := hostOps0 ++ (hostOps0_1 ++ List.take 12 hostOps0_2)

/-- Those that cut the slices and join them. -/
abbrev tailLine : List (HloOp τ sig (Elt Ideal)) := List.drop 12 hostOps0_2

/-- Joined end to end, 4 equal arrays make equal arrays. -/
theorem cat4 {a0 a1 a2 a3 b0 b1 b2 b3 : Vec Ideal S16x16x576 .f32} (h0 : a0 = b0) (h1 : a1 = b1) (h2 : a2 = b2) (h3 : a3 = b3) :
    concatenate S16x64x576 1 [⟨S16x16x576, a0⟩, ⟨S16x16x576, a1⟩, ⟨S16x16x576, a2⟩, ⟨S16x16x576, a3⟩] concatenates_S16x16x576_S16x16x576_S16x16x576_S16x16x576_S16x64x576_d1 = concatenate S16x64x576 1 [⟨S16x16x576, b0⟩, ⟨S16x16x576, b1⟩, ⟨S16x16x576, b2⟩, ⟨S16x16x576, b3⟩] concatenates_S16x16x576_S16x16x576_S16x16x576_S16x16x576_S16x64x576_d1 := by
  subst h0 h1 h2 h3
  rfl

/-- Joined end to end, 16 equal arrays make equal arrays. -/
theorem cat16 {a0 a1 a2 a3 a4 a5 a6 a7 a8 a9 a10 a11 a12 a13 a14 a15 b0 b1 b2 b3 b4 b5 b6 b7 b8 b9 b10 b11 b12 b13 b14 b15 : Vec Ideal S16x1x576 .f32} (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) :
    concatenate S16x16x576 1 [⟨S16x1x576, a0⟩, ⟨S16x1x576, a1⟩, ⟨S16x1x576, a2⟩, ⟨S16x1x576, a3⟩, ⟨S16x1x576, a4⟩, ⟨S16x1x576, a5⟩, ⟨S16x1x576, a6⟩, ⟨S16x1x576, a7⟩, ⟨S16x1x576, a8⟩, ⟨S16x1x576, a9⟩, ⟨S16x1x576, a10⟩, ⟨S16x1x576, a11⟩, ⟨S16x1x576, a12⟩, ⟨S16x1x576, a13⟩, ⟨S16x1x576, a14⟩, ⟨S16x1x576, a15⟩] concatenates_S16x1x576_S16x1x576_S16x1x576_S16x1x576_S16x1x576_S16x1x576_S16x1x576_S16x1x576_S16x1x576_S16x1x576_S16x1x576_S16x1x576_S16x1x576_S16x1x576_S16x1x576_S16x1x576_S16x16x576_d1 = concatenate S16x16x576 1 [⟨S16x1x576, b0⟩, ⟨S16x1x576, b1⟩, ⟨S16x1x576, b2⟩, ⟨S16x1x576, b3⟩, ⟨S16x1x576, b4⟩, ⟨S16x1x576, b5⟩, ⟨S16x1x576, b6⟩, ⟨S16x1x576, b7⟩, ⟨S16x1x576, b8⟩, ⟨S16x1x576, b9⟩, ⟨S16x1x576, b10⟩, ⟨S16x1x576, b11⟩, ⟨S16x1x576, b12⟩, ⟨S16x1x576, b13⟩, ⟨S16x1x576, b14⟩, ⟨S16x1x576, b15⟩] concatenates_S16x1x576_S16x1x576_S16x1x576_S16x1x576_S16x1x576_S16x1x576_S16x1x576_S16x1x576_S16x1x576_S16x1x576_S16x1x576_S16x1x576_S16x1x576_S16x1x576_S16x1x576_S16x1x576_S16x16x576_d1 := by
  subst h0 h1 h2 h3 h4 h5 h6 h7 h8 h9 h10 h11 h12 h13 h14 h15
  rfl

variable (σ : Valuation τ sig (Elt Ideal)) (x2 : Vec Ideal S16x257 .f32)

set_option maxHeartbeats 40000000 in
/-- The gathered diagonals are the reference's. -/
theorem diag_line : StableHlo.after headLine σ (Proc.devRef .tc main_v12) = Cert.ReferenceIdeal.Read.val_main_v22 (F := Ideal) (σ (Proc.devRef .tc main_arg2)) := by
  after_reads_simp
  rfl

set_option maxHeartbeats 40000000 in
/-- The first sixteen rows of the bias array. -/
theorem rows0 (h : σ (Proc.devRef .tc main_v12) = Cert.ReferenceIdeal.Read.val_main_v22 (F := Ideal) x2) :
    StableHlo.upto tailLine σ 132 (Proc.devRef .tc main_v141) = Cert.ReferenceIdeal.Read.val_main_v151 (F := Ideal) x2 := by
  after_reads_simp
  dsimp only [Matrix.cons_val]
  refine cat16 ?_ ?_ ?_ ?_ ?_ ?_ ?_ ?_ ?_ ?_ ?_ ?_ ?_ ?_ ?_ ?_
  all_goals
    after_reads_simp
    rw [h]
    rfl

set_option maxHeartbeats 40000000 in
/-- The second sixteen rows of the bias array. -/
theorem rows1 (h : σ (Proc.devRef .tc main_v12) = Cert.ReferenceIdeal.Read.val_main_v22 (F := Ideal) x2) :
    StableHlo.upto tailLine σ 132 (Proc.devRef .tc main_v142) = Cert.ReferenceIdeal.Read.val_main_v152 (F := Ideal) x2 := by
  after_reads_simp
  dsimp only [Matrix.cons_val]
  refine cat16 ?_ ?_ ?_ ?_ ?_ ?_ ?_ ?_ ?_ ?_ ?_ ?_ ?_ ?_ ?_ ?_
  all_goals
    after_reads_simp
    rw [h]
    rfl

set_option maxHeartbeats 40000000 in
/-- The third sixteen rows of the bias array. -/
theorem rows2 (h : σ (Proc.devRef .tc main_v12) = Cert.ReferenceIdeal.Read.val_main_v22 (F := Ideal) x2) :
    StableHlo.upto tailLine σ 132 (Proc.devRef .tc main_v143) = Cert.ReferenceIdeal.Read.val_main_v153 (F := Ideal) x2 := by
  after_reads_simp
  dsimp only [Matrix.cons_val]
  refine cat16 ?_ ?_ ?_ ?_ ?_ ?_ ?_ ?_ ?_ ?_ ?_ ?_ ?_ ?_ ?_ ?_
  all_goals
    after_reads_simp
    rw [h]
    rfl

set_option maxHeartbeats 40000000 in
/-- The fourth sixteen rows of the bias array. -/
theorem rows3 (h : σ (Proc.devRef .tc main_v12) = Cert.ReferenceIdeal.Read.val_main_v22 (F := Ideal) x2) :
    StableHlo.upto tailLine σ 132 (Proc.devRef .tc main_v144) = Cert.ReferenceIdeal.Read.val_main_v154 (F := Ideal) x2 := by
  after_reads_simp
  dsimp only [Matrix.cons_val]
  refine cat16 ?_ ?_ ?_ ?_ ?_ ?_ ?_ ?_ ?_ ?_ ?_ ?_ ?_ ?_ ?_ ?_
  all_goals
    after_reads_simp
    rw [h]
    rfl

set_option maxHeartbeats 40000000 in
/-- From the diagonals, the slices joined are the reference's. -/
theorem tail_bias (h : σ (Proc.devRef .tc main_v12) = Cert.ReferenceIdeal.Read.val_main_v22 (F := Ideal) x2) :
    StableHlo.after tailLine σ (Proc.devRef .tc main_v145) = Cert.ReferenceIdeal.Read.val_main_v155 (F := Ideal) x2 := by
  after_reads_simp
  dsimp only [Matrix.cons_val]
  exact cat4 (rows0 σ x2 h) (rows1 σ x2 h) (rows2 σ x2 h) (rows3 σ x2 h)

/-- The bias array the operations before the launch leave is the reference's. -/
theorem line_bias : StableHlo.after hostLine σ (Proc.devRef .tc main_v145) = Cert.ReferenceIdeal.Read.val_main_v155 (F := Ideal) (σ (Proc.devRef .tc main_arg2)) := by
  have e : (hostLine : List (HloOp τ sig (Elt Ideal))) = headLine ++ tailLine := rfl
  rw [e, StableHlo.after_append]
  exact tail_bias _ _ (diag_line σ)

variable (m : (ℓ : Loc nD τ sig) → Buf (Elt Ideal) ℓ)

/-- A program's bias block is the reference's bias array. -/
theorem blk5 (c : Dev nD) (t : Fin cfg0.N) (h : Fin 16) (r : Fin 64) (j : Fin 576) :
    iblk m c 5 t (ix3 h r j)
      = Cert.ReferenceIdeal.Read.val_main_v155 (F := Ideal) (m ((c : Thread nD τ).loc main_arg2)) (ix3 h r j) := by
  refine Eq.trans ?_ (congrFun (line_bias (fun b => m (c, b))) (ix3 h r j))
  blk_simp [iblk, idx t]
  refine congrArg (StableHlo.after hostLine (fun b => m (c, b)) (Proc.devRef .tc main_v145)) ?_
  blk_ext [idx t]

end Cert.KernelIdeal.BandAttention

end
-- ==== Proof.AttnFin.lean ====
module

public import proofs.«01_k».proof.Proof.Attn1
public import proofs.«01_k».proof.Pre_finite
public import proofs.«01_k».proof.Proof.Gen.ReferenceIdeal.Read
public import Idealize.ShloMosaic.Lib.Claim
public import Idealize.ShloMosaic.Lib.Pipeline.ValueKit
public import Idealize.ShloMosaic.Lib.Pointwise

@[expose] public section

set_option maxRecDepth 16384

/-!
# Finite arguments

  Every element of the bias array is an element of the table, so a finite table makes finite biases; sums and products of
  finite numbers are finite.
-/

noncomputable section

namespace Cert.KernelIdeal.BandAttention

open Cert.KernelIdeal Cert.KernelIdeal.Gen Idealize.ShloMosaic Idealize.ShloMosaic.TcCoe Idealize.SL.Sem

open Cert.ReferenceIdeal.Read

/-! ## Elements of the bias array are elements of the table -/

/-- What holds of every element of every array joined holds of every element of the join. -/
theorem join_all {α : Type} {P : α → Prop} (t : Shape) (a : Fin t.rank) (xs : List ((s : Shape) × (s.Idx → α)))
    (h : Shape.Concatenates (xs.map (·.1)) t a) (H : ∀ p ∈ xs, ∀ i, P (p.2 i)) (j : t.Idx) : P (concatenate t a xs h j) :=
  H _ (List.getElem_mem _) _

variable (x2 : Vec Ideal S16x257 .f32) (P : EReal → Prop)

theorem diag_all (H : ∀ i, P (x2 i)) (i : S16x639.Idx) : P (val_main_v22 (F := Ideal) x2 i) := by
  unfold val_main_v22
  exact H _

theorem part0_all (H : ∀ i, P (x2 i)) (i : S16x16x576.Idx) : P (val_main_v151 (F := Ideal) x2 i) := by
  unfold val_main_v151
  refine join_all _ _ _ _ ?_ i
  refine List.forall_mem_cons.2 ⟨fun i => by
    show P (val_main_v87 (F := Ideal) x2 i)
    rw [val_main_v87_apply, val_main_v23_apply]; exact diag_all x2 P H _, ?_⟩
  refine List.forall_mem_cons.2 ⟨fun i => by
    show P (val_main_v88 (F := Ideal) x2 i)
    rw [val_main_v88_apply, val_main_v24_apply]; exact diag_all x2 P H _, ?_⟩
  refine List.forall_mem_cons.2 ⟨fun i => by
    show P (val_main_v89 (F := Ideal) x2 i)
    rw [val_main_v89_apply, val_main_v25_apply]; exact diag_all x2 P H _, ?_⟩
  refine List.forall_mem_cons.2 ⟨fun i => by
    show P (val_main_v90 (F := Ideal) x2 i)
    rw [val_main_v90_apply, val_main_v26_apply]; exact diag_all x2 P H _, ?_⟩
  refine List.forall_mem_cons.2 ⟨fun i => by
    show P (val_main_v91 (F := Ideal) x2 i)
    rw [val_main_v91_apply, val_main_v27_apply]; exact diag_all x2 P H _, ?_⟩
  refine List.forall_mem_cons.2 ⟨fun i => by
    show P (val_main_v92 (F := Ideal) x2 i)
    rw [val_main_v92_apply, val_main_v28_apply]; exact diag_all x2 P H _, ?_⟩
  refine List.forall_mem_cons.2 ⟨fun i => by
    show P (val_main_v93 (F := Ideal) x2 i)
    rw [val_main_v93_apply, val_main_v29_apply]; exact diag_all x2 P H _, ?_⟩
  refine List.forall_mem_cons.2 ⟨fun i => by
    show P (val_main_v94 (F := Ideal) x2 i)
    rw [val_main_v94_apply, val_main_v30_apply]; exact diag_all x2 P H _, ?_⟩
  refine List.forall_mem_cons.2 ⟨fun i => by
    show P (val_main_v95 (F := Ideal) x2 i)
    rw [val_main_v95_apply, val_main_v31_apply]; exact diag_all x2 P H _, ?_⟩
  refine List.forall_mem_cons.2 ⟨fun i => by
    show P (val_main_v96 (F := Ideal) x2 i)
    rw [val_main_v96_apply, val_main_v32_apply]; exact diag_all x2 P H _, ?_⟩
  refine List.forall_mem_cons.2 ⟨fun i => by
    show P (val_main_v97 (F := Ideal) x2 i)
    rw [val_main_v97_apply, val_main_v33_apply]; exact diag_all x2 P H _, ?_⟩
  refine List.forall_mem_cons.2 ⟨fun i => by
    show P (val_main_v98 (F := Ideal) x2 i)
    rw [val_main_v98_apply, val_main_v34_apply]; exact diag_all x2 P H _, ?_⟩
  refine List.forall_mem_cons.2 ⟨fun i => by
    show P (val_main_v99 (F := Ideal) x2 i)
    rw [val_main_v99_apply, val_main_v35_apply]; exact diag_all x2 P H _, ?_⟩
  refine List.forall_mem_cons.2 ⟨fun i => by
    show P (val_main_v100 (F := Ideal) x2 i)
    rw [val_main_v100_apply, val_main_v36_apply]; exact diag_all x2 P H _, ?_⟩
  refine List.forall_mem_cons.2 ⟨fun i => by
    show P (val_main_v101 (F := Ideal) x2 i)
    rw [val_main_v101_apply, val_main_v37_apply]; exact diag_all x2 P H _, ?_⟩
  refine List.forall_mem_cons.2 ⟨fun i => by
    show P (val_main_v102 (F := Ideal) x2 i)
    rw [val_main_v102_apply, val_main_v38_apply]; exact diag_all x2 P H _, ?_⟩
  exact List.forall_mem_nil _

theorem part1_all (H : ∀ i, P (x2 i)) (i : S16x16x576.Idx) : P (val_main_v152 (F := Ideal) x2 i) := by
  unfold val_main_v152
  refine join_all _ _ _ _ ?_ i
  refine List.forall_mem_cons.2 ⟨fun i => by
    show P (val_main_v103 (F := Ideal) x2 i)
    rw [val_main_v103_apply, val_main_v39_apply]; exact diag_all x2 P H _, ?_⟩
  refine List.forall_mem_cons.2 ⟨fun i => by
    show P (val_main_v104 (F := Ideal) x2 i)
    rw [val_main_v104_apply, val_main_v40_apply]; exact diag_all x2 P H _, ?_⟩
  refine List.forall_mem_cons.2 ⟨fun i => by
    show P (val_main_v105 (F := Ideal) x2 i)
    rw [val_main_v105_apply, val_main_v41_apply]; exact diag_all x2 P H _, ?_⟩
  refine List.forall_mem_cons.2 ⟨fun i => by
    show P (val_main_v106 (F := Ideal) x2 i)
    rw [val_main_v106_apply, val_main_v42_apply]; exact diag_all x2 P H _, ?_⟩
  refine List.forall_mem_cons.2 ⟨fun i => by
    show P (val_main_v107 (F := Ideal) x2 i)
    rw [val_main_v107_apply, val_main_v43_apply]; exact diag_all x2 P H _, ?_⟩
  refine List.forall_mem_cons.2 ⟨fun i => by
    show P (val_main_v108 (F := Ideal) x2 i)
    rw [val_main_v108_apply, val_main_v44_apply]; exact diag_all x2 P H _, ?_⟩
  refine List.forall_mem_cons.2 ⟨fun i => by
    show P (val_main_v109 (F := Ideal) x2 i)
    rw [val_main_v109_apply, val_main_v45_apply]; exact diag_all x2 P H _, ?_⟩
  refine List.forall_mem_cons.2 ⟨fun i => by
    show P (val_main_v110 (F := Ideal) x2 i)
    rw [val_main_v110_apply, val_main_v46_apply]; exact diag_all x2 P H _, ?_⟩
  refine List.forall_mem_cons.2 ⟨fun i => by
    show P (val_main_v111 (F := Ideal) x2 i)
    rw [val_main_v111_apply, val_main_v47_apply]; exact diag_all x2 P H _, ?_⟩
  refine List.forall_mem_cons.2 ⟨fun i => by
    show P (val_main_v112 (F := Ideal) x2 i)
    rw [val_main_v112_apply, val_main_v48_apply]; exact diag_all x2 P H _, ?_⟩
  refine List.forall_mem_cons.2 ⟨fun i => by
    show P (val_main_v113 (F := Ideal) x2 i)
    rw [val_main_v113_apply, val_main_v49_apply]; exact diag_all x2 P H _, ?_⟩
  refine List.forall_mem_cons.2 ⟨fun i => by
    show P (val_main_v114 (F := Ideal) x2 i)
    rw [val_main_v114_apply, val_main_v50_apply]; exact diag_all x2 P H _, ?_⟩
  refine List.forall_mem_cons.2 ⟨fun i => by
    show P (val_main_v115 (F := Ideal) x2 i)
    rw [val_main_v115_apply, val_main_v51_apply]; exact diag_all x2 P H _, ?_⟩
  refine List.forall_mem_cons.2 ⟨fun i => by
    show P (val_main_v116 (F := Ideal) x2 i)
    rw [val_main_v116_apply, val_main_v52_apply]; exact diag_all x2 P H _, ?_⟩
  refine List.forall_mem_cons.2 ⟨fun i => by
    show P (val_main_v117 (F := Ideal) x2 i)
    rw [val_main_v117_apply, val_main_v53_apply]; exact diag_all x2 P H _, ?_⟩
  refine List.forall_mem_cons.2 ⟨fun i => by
    show P (val_main_v118 (F := Ideal) x2 i)
    rw [val_main_v118_apply, val_main_v54_apply]; exact diag_all x2 P H _, ?_⟩
  exact List.forall_mem_nil _

theorem part2_all (H : ∀ i, P (x2 i)) (i : S16x16x576.Idx) : P (val_main_v153 (F := Ideal) x2 i) := by
  unfold val_main_v153
  refine join_all _ _ _ _ ?_ i
  refine List.forall_mem_cons.2 ⟨fun i => by
    show P (val_main_v119 (F := Ideal) x2 i)
    rw [val_main_v119_apply, val_main_v55_apply]; exact diag_all x2 P H _, ?_⟩
  refine List.forall_mem_cons.2 ⟨fun i => by
    show P (val_main_v120 (F := Ideal) x2 i)
    rw [val_main_v120_apply, val_main_v56_apply]; exact diag_all x2 P H _, ?_⟩
  refine List.forall_mem_cons.2 ⟨fun i => by
    show P (val_main_v121 (F := Ideal) x2 i)
    rw [val_main_v121_apply, val_main_v57_apply]; exact diag_all x2 P H _, ?_⟩
  refine List.forall_mem_cons.2 ⟨fun i => by
    show P (val_main_v122 (F := Ideal) x2 i)
    rw [val_main_v122_apply, val_main_v58_apply]; exact diag_all x2 P H _, ?_⟩
  refine List.forall_mem_cons.2 ⟨fun i => by
    show P (val_main_v123 (F := Ideal) x2 i)
    rw [val_main_v123_apply, val_main_v59_apply]; exact diag_all x2 P H _, ?_⟩
  refine List.forall_mem_cons.2 ⟨fun i => by
    show P (val_main_v124 (F := Ideal) x2 i)
    rw [val_main_v124_apply, val_main_v60_apply]; exact diag_all x2 P H _, ?_⟩
  refine List.forall_mem_cons.2 ⟨fun i => by
    show P (val_main_v125 (F := Ideal) x2 i)
    rw [val_main_v125_apply, val_main_v61_apply]; exact diag_all x2 P H _, ?_⟩
  refine List.forall_mem_cons.2 ⟨fun i => by
    show P (val_main_v126 (F := Ideal) x2 i)
    rw [val_main_v126_apply, val_main_v62_apply]; exact diag_all x2 P H _, ?_⟩
  refine List.forall_mem_cons.2 ⟨fun i => by
    show P (val_main_v127 (F := Ideal) x2 i)
    rw [val_main_v127_apply, val_main_v63_apply]; exact diag_all x2 P H _, ?_⟩
  refine List.forall_mem_cons.2 ⟨fun i => by
    show P (val_main_v128 (F := Ideal) x2 i)
    rw [val_main_v128_apply, val_main_v64_apply]; exact diag_all x2 P H _, ?_⟩
  refine List.forall_mem_cons.2 ⟨fun i => by
    show P (val_main_v129 (F := Ideal) x2 i)
    rw [val_main_v129_apply, val_main_v65_apply]; exact diag_all x2 P H _, ?_⟩
  refine List.forall_mem_cons.2 ⟨fun i => by
    show P (val_main_v130 (F := Ideal) x2 i)
    rw [val_main_v130_apply, val_main_v66_apply]; exact diag_all x2 P H _, ?_⟩
  refine List.forall_mem_cons.2 ⟨fun i => by
    show P (val_main_v131 (F := Ideal) x2 i)
    rw [val_main_v131_apply, val_main_v67_apply]; exact diag_all x2 P H _, ?_⟩
  refine List.forall_mem_cons.2 ⟨fun i => by
    show P (val_main_v132 (F := Ideal) x2 i)
    rw [val_main_v132_apply, val_main_v68_apply]; exact diag_all x2 P H _, ?_⟩
  refine List.forall_mem_cons.2 ⟨fun i => by
    show P (val_main_v133 (F := Ideal) x2 i)
    rw [val_main_v133_apply, val_main_v69_apply]; exact diag_all x2 P H _, ?_⟩
  refine List.forall_mem_cons.2 ⟨fun i => by
    show P (val_main_v134 (F := Ideal) x2 i)
    rw [val_main_v134_apply, val_main_v70_apply]; exact diag_all x2 P H _, ?_⟩
  exact List.forall_mem_nil _

theorem part3_all (H : ∀ i, P (x2 i)) (i : S16x16x576.Idx) : P (val_main_v154 (F := Ideal) x2 i) := by
  unfold val_main_v154
  refine join_all _ _ _ _ ?_ i
  refine List.forall_mem_cons.2 ⟨fun i => by
    show P (val_main_v135 (F := Ideal) x2 i)
    rw [val_main_v135_apply, val_main_v71_apply]; exact diag_all x2 P H _, ?_⟩
  refine List.forall_mem_cons.2 ⟨fun i => by
    show P (val_main_v136 (F := Ideal) x2 i)
    rw [val_main_v136_apply, val_main_v72_apply]; exact diag_all x2 P H _, ?_⟩
  refine List.forall_mem_cons.2 ⟨fun i => by
    show P (val_main_v137 (F := Ideal) x2 i)
    rw [val_main_v137_apply, val_main_v73_apply]; exact diag_all x2 P H _, ?_⟩
  refine List.forall_mem_cons.2 ⟨fun i => by
    show P (val_main_v138 (F := Ideal) x2 i)
    rw [val_main_v138_apply, val_main_v74_apply]; exact diag_all x2 P H _, ?_⟩
  refine List.forall_mem_cons.2 ⟨fun i => by
    show P (val_main_v139 (F := Ideal) x2 i)
    rw [val_main_v139_apply, val_main_v75_apply]; exact diag_all x2 P H _, ?_⟩
  refine List.forall_mem_cons.2 ⟨fun i => by
    show P (val_main_v140 (F := Ideal) x2 i)
    rw [val_main_v140_apply, val_main_v76_apply]; exact diag_all x2 P H _, ?_⟩
  refine List.forall_mem_cons.2 ⟨fun i => by
    show P (val_main_v141 (F := Ideal) x2 i)
    rw [val_main_v141_apply, val_main_v77_apply]; exact diag_all x2 P H _, ?_⟩
  refine List.forall_mem_cons.2 ⟨fun i => by
    show P (val_main_v142 (F := Ideal) x2 i)
    rw [val_main_v142_apply, val_main_v78_apply]; exact diag_all x2 P H _, ?_⟩
  refine List.forall_mem_cons.2 ⟨fun i => by
    show P (val_main_v143 (F := Ideal) x2 i)
    rw [val_main_v143_apply, val_main_v79_apply]; exact diag_all x2 P H _, ?_⟩
  refine List.forall_mem_cons.2 ⟨fun i => by
    show P (val_main_v144 (F := Ideal) x2 i)
    rw [val_main_v144_apply, val_main_v80_apply]; exact diag_all x2 P H _, ?_⟩
  refine List.forall_mem_cons.2 ⟨fun i => by
    show P (val_main_v145 (F := Ideal) x2 i)
    rw [val_main_v145_apply, val_main_v81_apply]; exact diag_all x2 P H _, ?_⟩
  refine List.forall_mem_cons.2 ⟨fun i => by
    show P (val_main_v146 (F := Ideal) x2 i)
    rw [val_main_v146_apply, val_main_v82_apply]; exact diag_all x2 P H _, ?_⟩
  refine List.forall_mem_cons.2 ⟨fun i => by
    show P (val_main_v147 (F := Ideal) x2 i)
    rw [val_main_v147_apply, val_main_v83_apply]; exact diag_all x2 P H _, ?_⟩
  refine List.forall_mem_cons.2 ⟨fun i => by
    show P (val_main_v148 (F := Ideal) x2 i)
    rw [val_main_v148_apply, val_main_v84_apply]; exact diag_all x2 P H _, ?_⟩
  refine List.forall_mem_cons.2 ⟨fun i => by
    show P (val_main_v149 (F := Ideal) x2 i)
    rw [val_main_v149_apply, val_main_v85_apply]; exact diag_all x2 P H _, ?_⟩
  refine List.forall_mem_cons.2 ⟨fun i => by
    show P (val_main_v150 (F := Ideal) x2 i)
    rw [val_main_v150_apply, val_main_v86_apply]; exact diag_all x2 P H _, ?_⟩
  exact List.forall_mem_nil _

/-- Every element of the bias array is an element of the table. -/
theorem bias_all (H : ∀ i, P (x2 i)) (i : S16x64x576.Idx) : P (val_main_v155 (F := Ideal) x2 i) := by
  unfold val_main_v155
  refine join_all _ _ _ _ ?_ i
  exact List.forall_mem_cons.2 ⟨part0_all x2 P H, List.forall_mem_cons.2 ⟨part1_all x2 P H,
    List.forall_mem_cons.2 ⟨part2_all x2 P H, List.forall_mem_cons.2 ⟨part3_all x2 P H, List.forall_mem_nil _⟩⟩⟩⟩

/-! ## Finite numbers -/

/-- Neither infinity. -/
def Real1 (x : EReal) : Prop := x ≠ ⊤ ∧ x ≠ ⊥

theorem Real1.add {x y : EReal} (hx : Real1 x) (hy : Real1 y) : Real1 (x + y) := by
  obtain ⟨h1, h2⟩ := hx
  obtain ⟨h3, h4⟩ := hy
  lift x to ℝ using ⟨h1, h2⟩
  lift y to ℝ using ⟨h3, h4⟩
  rw [← EReal.coe_add]
  exact ⟨EReal.coe_ne_top _, EReal.coe_ne_bot _⟩

theorem Real1.mul {x y : EReal} (hx : Real1 x) (hy : Real1 y) : Real1 (x * y) := by
  obtain ⟨h1, h2⟩ := hx
  obtain ⟨h3, h4⟩ := hy
  lift x to ℝ using ⟨h1, h2⟩
  lift y to ℝ using ⟨h3, h4⟩
  rw [← EReal.coe_mul]
  exact ⟨EReal.coe_ne_top _, EReal.coe_ne_bot _⟩

theorem Real1.sum {ι : Type} (A : Finset ι) (f : ι → EReal) (h : ∀ i, Real1 (f i)) : Real1 (∑ i ∈ A, f i) := by
  classical
  induction A using Finset.induction_on with
  | empty => simp [Real1]
  | insert a A ha ih => rw [Finset.sum_insert ha]; exact (h a).add ih

/-- A magnitude below +∞ is that of a finite number. -/
theorem real_of_olt (x : EReal) (h : Ideal.cmp .olt (max x (-x)) (Ideal.ofBits .f32 0x7F800000#32) = 1#1) : Real1 x := by
  have htop : Ideal.ofBits .f32 0x7F800000#32 = ⊤ := by simp [Ideal.ofBits, Ideal.ieee]
  rw [htop] at h
  unfold Ideal.cmp at h
  refine ⟨?_, ?_⟩ <;> intro e <;> subst e <;> simp at h

end Cert.KernelIdeal.BandAttention

namespace Cert.KernelIdeal.BandAttention

open Cert.KernelIdeal Idealize.ShloMosaic Idealize.ShloMosaic.TcCoe Idealize.SL.Sem

/-- The precondition, element by element: the queries, the keys and the table. -/
theorem real_args [Cert.Pre_finite.Facts] (x0 : Vec Ideal S65536x4096 .bf16) (x1 : Vec Ideal S65536x3072 .f32) (x2 : Vec Ideal S16x257 .f32)
    (h : (Cert.Pre_finite.fn (F := Ideal) x0 x1 x2).1 = (fun _ => 1#1)
      ∧ (Cert.Pre_finite.fn (F := Ideal) x0 x1 x2).2.1 = (fun _ => 1#1)
      ∧ (Cert.Pre_finite.fn (F := Ideal) x0 x1 x2).2.2 = (fun _ => 1#1)) :
    (∀ (r : Fin 65536) (d : Fin 4096), d.val < 1024 → Real1 (x0 (ix2 r d))) ∧ (∀ (r : Fin 65536) (d : Fin 3072), d.val < 1024 → Real1 (x1 (ix2 r d)))
      ∧ (∀ i, Real1 (x2 i)) := by
  refine ⟨fun r d hd => ?_, fun r d hd => ?_, fun i => real_of_olt _ (congrFun h.2.2 i)⟩
  · have e : extractStridedSlice Cert.Pre_finite.S65536x1024 ![0, 0] x0 Cert.Pre_finite.Facts.slices_S65536x4096_S65536x1024_0_0 (ix2 r ⟨d.val, hd⟩) = x0 (ix2 r d) := by
      refine congrArg x0 (funext fun a => Fin.ext ?_)
      match a with
      | ⟨0, _⟩ => show 0 + r.val = r.val; omega
      | ⟨1, _⟩ => show 0 + d.val = d.val; omega
    rw [← e]
    exact real_of_olt _ (congrFun h.1 (ix2 r ⟨d.val, hd⟩))
  · have e : extractStridedSlice Cert.Pre_finite.S65536x1024 ![0, 0] x1 Cert.Pre_finite.Facts.slices_S65536x3072_S65536x1024_0_0 (ix2 r ⟨d.val, hd⟩) = x1 (ix2 r d) := by
      refine congrArg x1 (funext fun a => Fin.ext ?_)
      match a with
      | ⟨0, _⟩ => show 0 + r.val = r.val; omega
      | ⟨1, _⟩ => show 0 + d.val = d.val; omega
    rw [← e]
    exact real_of_olt _ (congrFun h.2.1 (ix2 r ⟨d.val, hd⟩))

end Cert.KernelIdeal.BandAttention

end
-- ==== Proof.AttnRefA.lean ====
module

public import proofs.«01_k».proof.Proof.Gen.ReferenceIdeal.Read
public import Idealize.ShloMosaic.Lib.KernelVsHost
public import Idealize.ShloMosaic.Lib.Claim
public import Idealize.ShloMosaic.Lib.Pipeline.ValueKit
public import Idealize.ShloMosaic.Lib.Pointwise

@[expose] public section

set_option maxRecDepth 16384

/-!
The reference's keys and values of a band at an index: the row of the padded sequence the band's position names, and the
argument's element that row is when it is not before the start.
-/

noncomputable section

namespace Cert.ReferenceIdeal.Band

open Cert.ReferenceIdeal Cert.ReferenceIdeal.Read Idealize.ShloMosaic Idealize.ShloMosaic.TcCoe Idealize.SL.Sem

/-- The position a band's key has in the padded sequence, as the gather's index word. -/
theorem word_at (c : Fin 64) (j : Fin 576) : (val_main_call3_v0 (F := Ideal)) (ix3 c j 0) = BitVec.ofNat 32 (64 * c.val + j.val) := by
  pointwise [val_main_call3_v0, val_main_v163, val_main_v162, val_main_v161, val_main_v160, val_main_v159, val_main_v158, val_main_v157, val_main_v156, val_main_v9, val_main_c_7]
  show BitVec.ofNat 32 c.val * 64#32 + BitVec.ofNat 32 j.val = _
  apply BitVec.eq_of_toNat_eq
  simp only [BitVec.toNat_add, BitVec.toNat_mul, BitVec.toNat_ofNat]
  omega

theorem word_at' (c : Fin 64) (j : Fin 576) : (val_main_call4_v0 (F := Ideal)) (ix3 c j 0) = BitVec.ofNat 32 (64 * c.val + j.val) := word_at c j

theorem word_toNat (c : Fin 64) (j : Fin 576) : (BitVec.ofNat 32 (64 * c.val + j.val)).toInt.toNat = 64 * c.val + j.val := by
  rw [BitVec.toInt_eq_toNat_of_lt (by rw [BitVec.toNat_ofNat]; omega), BitVec.toNat_ofNat]
  omega

/-- The gather of the band read at an index. -/
theorem gather_at (x : FVec Ideal S16x4608x16x64 .f32) (w : IVec S64x576x1 32) (b : Fin 16) (c : Fin 64) (j : Fin 576) (h : Fin 16) (d : Fin 64) :
    Host.gather gather_S16x4608x16x64_S64x576x1_S16x64x576x16x64_034_1_n_n_1_2_1611664 x w (ix5 b c j h d)
    = x (ix4 b ⟨min (w (ix3 c j 0)).toInt.toNat 4607, by omega⟩ h d) := by
  unfold Host.gather
  congr 1
  funext a
  refine Fin.ext ?_
  have hs : ∀ a : Fin S16x4608x16x64.rank, a ∈ gather_S16x4608x16x64_S64x576x1_S16x64x576x16x64_034_1_n_n_1_2_1611664.startIndexMap ↔ a.val = 1 := fun a =>
    ⟨fun h => congrArg Fin.val (List.mem_singleton.mp h), fun h => List.mem_singleton.mpr (Fin.ext h)⟩
  have h0 : ∀ a : Fin S16x4608x16x64.rank, a.val ≠ 1 → gather_S16x4608x16x64_S64x576x1_S16x64x576x16x64_034_1_n_n_1_2_1611664.start (ix5 b c j h d) w a = 0 := by
    intro a ha
    unfold GatherDims.start
    exact dif_neg (fun hh => ha ((hs a).mp hh))
  show gather_S16x4608x16x64_S64x576x1_S16x64x576x16x64_034_1_n_n_1_2_1611664.start (ix5 b c j h d) w a + gather_S16x4608x16x64_S64x576x1_S16x64x576x16x64_034_1_n_n_1_2_1611664.batchCoord (ix5 b c j h d) a
      + gather_S16x4608x16x64_S64x576x1_S16x64x576x16x64_034_1_n_n_1_2_1611664.offCoord (ix5 b c j h d) a = _
  rw [GatherDims.batchCoord_eq_zero _ _ _ List.not_mem_nil]
  match a with
  | ⟨0, p⟩ => rw [h0 ⟨0, p⟩ (show (0 : ℕ) ≠ 1 from by decide)]; simp only [Nat.zero_add]; rfl
  | ⟨2, p⟩ => rw [h0 ⟨2, p⟩ (show (2 : ℕ) ≠ 1 from by decide)]; simp only [Nat.zero_add]; rfl
  | ⟨3, p⟩ => rw [h0 ⟨3, p⟩ (show (3 : ℕ) ≠ 1 from by decide)]; simp only [Nat.zero_add]; rfl
  | ⟨1, p⟩ =>
    rw [GatherDims.offCoord_eq_zero _ _ _ (fun h => ((GatherDims.mem_sKept _ _).mp h).1 (List.mem_singleton.mpr rfl))]
    simp only [Nat.add_zero]
    unfold GatherDims.start
    rw [dif_pos ((hs ⟨1, p⟩).mpr rfl)]
    have hsi : gather_S16x4608x16x64_S64x576x1_S16x64x576x16x64_034_1_n_n_1_2_1611664.siIdx (ix5 b c j h d) ⟨List.idxOf (⟨1, p⟩ : Fin S16x4608x16x64.rank) gather_S16x4608x16x64_S64x576x1_S16x64x576x16x64_034_1_n_n_1_2_1611664.startIndexMap,
      List.idxOf_lt_length_iff.2 ((hs ⟨1, p⟩).mpr rfl)⟩ = ix3 c j 0 := by
      funext b; refine Fin.ext ?_
      match b with
      | ⟨0, _⟩ => rfl
      | ⟨1, _⟩ => rfl
      | ⟨2, _⟩ => rfl
    exact congrArg (fun z => min (w z).toInt.toNat 4607) hsi

/-- The padded keys and values at a row not before the start. -/
theorem kpad_at (x1 : (⟨S65536x3072, .f32⟩ : BufTy).Contents (Elt Ideal)) (b : Fin 16) (n : Fin 4608) (hn : 512 ≤ n.val) (h : Fin 16) (d : Fin 64) :
    val_main_v7 (F := Ideal) x1 (ix4 b n h d) = x1 (ix2 ⟨4096 * b.val + (n.val - 512), by omega⟩ ⟨64 * h.val + d.val, by omega⟩) := by
  unfold val_main_v7
  refine (pad_apply_of_inside _ _ _ _ _ _ _ _ (ix4 b ⟨n.val - 512, by omega⟩ h d) (fun a => ?_)).trans ?_
  · match a with
    | ⟨0, _⟩ => show b.val = 0 + b.val * 1; omega
    | ⟨1, _⟩ => show n.val = 512 + (n.val - 512) * 1; omega
    | ⟨2, _⟩ => show h.val = 0 + h.val * 1; omega
    | ⟨3, _⟩ => show d.val = 0 + d.val * 1; omega
  · rw [val_main_v4_apply, val_main_v3_apply]
    refine congrArg x1 (funext fun a => Fin.ext ?_)
    match a with
    | ⟨0, _⟩ => show (((b.val * 4096 + (n.val - 512)) * 16 + h.val) * 64 + d.val) / 1024 = _; dsimp only; show _ = 4096 * b.val + (n.val - 512); omega
    | ⟨1, _⟩ => show (((b.val * 4096 + (n.val - 512)) * 16 + h.val) * 64 + d.val) % 1024 = 64 * h.val + d.val; omega

theorem vpad_at (x1 : (⟨S65536x3072, .f32⟩ : BufTy).Contents (Elt Ideal)) (b : Fin 16) (n : Fin 4608) (hn : 512 ≤ n.val) (h : Fin 16) (d : Fin 64) :
    val_main_v8 (F := Ideal) x1 (ix4 b n h d) = x1 (ix2 ⟨4096 * b.val + (n.val - 512), by omega⟩ ⟨1024 + (64 * h.val + d.val), by omega⟩) := by
  unfold val_main_v8
  refine (pad_apply_of_inside _ _ _ _ _ _ _ _ (ix4 b ⟨n.val - 512, by omega⟩ h d) (fun a => ?_)).trans ?_
  · match a with
    | ⟨0, _⟩ => show b.val = 0 + b.val * 1; omega
    | ⟨1, _⟩ => show n.val = 512 + (n.val - 512) * 1; omega
    | ⟨2, _⟩ => show h.val = 0 + h.val * 1; omega
    | ⟨3, _⟩ => show d.val = 0 + d.val * 1; omega
  · rw [val_main_v6_apply, val_main_v5_apply]
    refine congrArg x1 (funext fun a => Fin.ext ?_)
    match a with
    | ⟨0, _⟩ => show (((b.val * 4096 + (n.val - 512)) * 16 + h.val) * 64 + d.val) / 1024 = _; dsimp only; show _ = 4096 * b.val + (n.val - 512); omega
    | ⟨1, _⟩ => show 1024 + (((b.val * 4096 + (n.val - 512)) * 16 + h.val) * 64 + d.val) % 1024 = 1024 + (64 * h.val + d.val); omega

/-- The band's keys at a position not before the start. -/
theorem key_at (x1 : (⟨S65536x3072, .f32⟩ : BufTy).Contents (Elt Ideal)) (b : Fin 16) (c : Fin 64) (j : Fin 576) (hj : 512 ≤ 64 * c.val + j.val) (h : Fin 16) (d : Fin 64) :
    val_main_v164 (F := Ideal) x1 (ix5 b c j h d) = x1 (ix2 ⟨4096 * b.val + (64 * c.val + j.val - 512), by omega⟩ ⟨64 * h.val + d.val, by omega⟩) := by
  unfold val_main_v164
  rw [gather_at]
  have e : (⟨min ((val_main_call3_v0 (F := Ideal)) (ix3 c j 0)).toInt.toNat 4607, by omega⟩ : Fin 4608) = ⟨64 * c.val + j.val, by omega⟩ := by
    refine Fin.ext ?_
    show min _ 4607 = 64 * c.val + j.val
    rw [word_at, word_toNat]; omega
  rw [e]
  exact kpad_at x1 b _ hj h d

theorem value_at (x1 : (⟨S65536x3072, .f32⟩ : BufTy).Contents (Elt Ideal)) (b : Fin 16) (c : Fin 64) (j : Fin 576) (hj : 512 ≤ 64 * c.val + j.val) (h : Fin 16) (d : Fin 64) :
    val_main_v165 (F := Ideal) x1 (ix5 b c j h d) = x1 (ix2 ⟨4096 * b.val + (64 * c.val + j.val - 512), by omega⟩ ⟨1024 + (64 * h.val + d.val), by omega⟩) := by
  unfold val_main_v165
  rw [gather_at]
  have e : (⟨min ((val_main_call4_v0 (F := Ideal)) (ix3 c j 0)).toInt.toNat 4607, by omega⟩ : Fin 4608) = ⟨64 * c.val + j.val, by omega⟩ := by
    refine Fin.ext ?_
    show min _ 4607 = 64 * c.val + j.val
    rw [word_at', word_toNat]; omega
  rw [e]
  exact vpad_at x1 b _ hj h d

end Cert.ReferenceIdeal.Band

end
-- ==== Proof.AttnRow.lean ====
module

public import proofs.«01_k».proof.Proof.Attn2
public import Idealize.ShloMosaic.Lib.Claim
public import Idealize.ShloMosaic.Lib.Pointwise

@[expose] public section

/-!
One row of the softmax: weighting the values by the exponentials and multiplying the sum by the reciprocal of the
exponentials' sum is weighting them by the quotients, provided the row's largest score is a real number.
-/

noncomputable section

namespace Cert.KernelIdeal.BandAttention

open Idealize.ShloMosaic

/-- A nonnegative number other than +∞ multiplies a sum term by term. -/
theorem sum_mul_const {ι : Type} (A : Finset ι) (f : ι → EReal) (c : EReal) (h0 : 0 ≤ c) (ht : c ≠ ⊤) :
    (∑ i ∈ A, f i) * c = ∑ i ∈ A, f i * c := by
  classical
  induction A using Finset.induction_on with
  | empty => simp
  | insert a A ha ih =>
    rw [Finset.sum_insert ha, Finset.sum_insert ha, ← ih, EReal.right_distrib_of_nonneg_of_ne_top h0 ht]

theorem inv_ne_top (x : EReal) : x⁻¹ ≠ ⊤ := by
  induction x with
  | bot => simp
  | top => simp
  | coe r => rw [← EReal.coe_inv]; exact EReal.coe_ne_top _

theorem exp_nonneg (x : EReal) : 0 ≤ Ideal.exp x := by
  induction x with
  | bot => exact le_refl _
  | top => exact le_top
  | coe r => exact EReal.coe_nonneg.mpr (Real.exp_pos r).le

theorem rowMax_eq_sup (s : Fin 576 → EReal) : rowMax s = Finset.univ.sup s := rfl

theorem exists_rowMax (s : Fin 576 → EReal) : ∃ j, s j = rowMax s := by
  obtain ⟨j, -, hj⟩ := Finset.exists_mem_eq_sup Finset.univ Finset.univ_nonempty s
  exact ⟨j, hj.symm⟩

theorem le_rowMax (s : Fin 576 → EReal) (j : Fin 576) : s j ≤ rowMax s := by
  rw [rowMax_eq_sup]; exact Finset.le_sup (Finset.mem_univ j)

theorem rowExp_sum_pos (s : Fin 576 → EReal) (ht : rowMax s ≠ ⊤) (hb : rowMax s ≠ ⊥) : 0 < ∑ j, rowExp s j := by
  obtain ⟨j, hj⟩ := exists_rowMax s
  have h1 : rowExp s j = 1 := by
    unfold rowExp
    rw [hj]
    generalize rowMax s = M at ht hb
    induction M with
    | bot => exact absurd rfl hb
    | top => exact absurd rfl ht
    | coe r =>
      rw [← EReal.coe_sub, sub_self]
      show ((Real.exp 0 : ℝ) : EReal) = 1
      rw [Real.exp_zero]; rfl
  calc (0 : EReal) < 1 := zero_lt_one
    _ = rowExp s j := h1.symm
    _ ≤ ∑ j, rowExp s j := Finset.single_le_sum (f := rowExp s) (fun i _ => exp_nonneg _) (Finset.mem_univ j)

/-- The row's result as the reference writes it. -/
theorem rowMix_eq (s V : Fin 576 → EReal) (ht : rowMax s ≠ ⊤) (hb : rowMax s ≠ ⊥) :
    (∑ j, V j * Ideal.div (rowExp s j) (∑ i, rowExp s i)) = rowMix s V := by
  have hS := rowExp_sum_pos s ht hb
  unfold rowMix
  generalize (∑ i, rowExp s i) = S at hS
  have hne : S ≠ 0 := ne_of_gt hS
  unfold Ideal.div
  rw [if_neg hne]
  simp only [if_neg hne, one_mul]
  rw [sum_mul_const _ _ _ (EReal.inv_nonneg_of_nonneg hS.le) (inv_ne_top S)]
  refine Finset.sum_congr rfl fun j _ => ?_
  rw [← mul_assoc, mul_comm (V j)]

/-- Two rows with the same scores, whose values agree wherever the score is not −∞, mix to the same. -/
theorem rowMix_congr (s V V' : Fin 576 → EReal) (hb : rowMax s ≠ ⊥) (h : ∀ j, s j ≠ ⊥ → V j = V' j) :
    rowMix s V = rowMix s V' := by
  unfold rowMix
  congr 1
  refine Finset.sum_congr rfl fun j _ => ?_
  by_cases hj : s j = ⊥
  · have : rowExp s j = 0 := by
      unfold rowExp
      rw [hj, EReal.bot_sub]
      rfl
    rw [this, zero_mul, zero_mul]
  · rw [h j hj]

end Cert.KernelIdeal.BandAttention

end
-- ==== Proof.AttnRefB.lean ====
module

public import proofs.«01_k».proof.Proof.AttnRefA
public import proofs.«01_k».proof.Proof.AttnRow
public import Idealize.ShloMosaic.Lib.Claim
public import Idealize.ShloMosaic.Lib.Pipeline.ValueKit
public import Idealize.ShloMosaic.Lib.Pointwise

@[expose] public section

set_option maxRecDepth 16384

/-!
The reference's result at an index: the band's values weighted by the softmax of its scores.
-/

noncomputable section

namespace Cert.ReferenceIdeal.Band

open Cert.ReferenceIdeal Cert.ReferenceIdeal.Read Cert.KernelIdeal.BandAttention Idealize.ShloMosaic Idealize.ShloMosaic.TcCoe Idealize.SL.Sem

/-- One eighth as the reference writes it. -/
def eighth32 : EReal := Scalar.ofBits (F := Ideal) .f32 0x3E000000#32

/-- The reference's score of a key of the band, masked. -/
def score (x0 : (⟨S65536x4096, .bf16⟩ : BufTy).Contents (Elt Ideal)) (x1 : (⟨S65536x3072, .f32⟩ : BufTy).Contents (Elt Ideal)) (x2 : (⟨S16x257, .f32⟩ : BufTy).Contents (Elt Ideal))
    (b : Fin 16) (c r : Fin 64) (h : Fin 16) (j : Fin 576) : EReal :=
  if 512 ≤ 64 * c.val + j.val then
    @HAdd.hAdd EReal EReal EReal instHAdd (@HMul.hMul EReal EReal EReal instHMul
      (∑ d : Fin 64, @HMul.hMul EReal EReal EReal instHMul (x0 (ix2 ⟨4096 * b.val + 64 * c.val + r.val, by omega⟩ ⟨64 * h.val + d.val, by omega⟩))
        (x1 (ix2 ⟨4096 * b.val + (64 * c.val + j.val - 512), by omega⟩ ⟨64 * h.val + d.val, by omega⟩))) eighth32)
      (val_main_v155 (F := Ideal) x2 (ix3 h r j))
  else ⊥

/-- The position of a band's key as an index word. -/
theorem row_at (c : Fin 64) (j : Fin 576) : (val_main_v163 (F := Ideal)) (ix2 c j) = BitVec.ofNat 32 (64 * c.val + j.val) := by
  pointwise [val_main_v163, val_main_v162, val_main_v161, val_main_v160, val_main_v159, val_main_v158, val_main_v157, val_main_v156, val_main_v9, val_main_c_7]
  show BitVec.ofNat 32 c.val * 64#32 + BitVec.ofNat 32 j.val = _
  apply BitVec.eq_of_toNat_eq
  simp only [BitVec.toNat_add, BitVec.toNat_mul, BitVec.toNat_ofNat]
  omega

theorem valid_at (c : Fin 64) (j : Fin 576) : (val_main_v169 (F := Ideal)) (ix2 c j) = if 512 ≤ 64 * c.val + j.val then 1#1 else 0#1 := by
  rw [val_main_v169_apply, val_main_v167_apply, row_at, val_main_v166_apply, val_main_v168_apply]
  exact (by decide +kernel : ∀ n : Fin 4608, IntOp.cmpi .sge (IntOp.subi (BitVec.ofNat 32 n.val) 512#32) 0#32
      = if 512 ≤ n.val then 1#1 else 0#1) ⟨64 * c.val + j.val, by omega⟩

/-- The queries at an index. -/
theorem query_at (x0 : (⟨S65536x4096, .bf16⟩ : BufTy).Contents (Elt Ideal)) (b : Fin 16) (c r : Fin 64) (h : Fin 16) (d : Fin 64) :
    val_main_v2 (F := Ideal) x0 (ix5 b c r h d) = x0 (ix2 ⟨4096 * b.val + 64 * c.val + r.val, by omega⟩ ⟨64 * h.val + d.val, by omega⟩) := by
  rw [val_main_v2_apply, val_main_v1_apply, val_main_v0_apply]
  refine congrArg x0 (funext fun a => Fin.ext ?_)
  match a with
  | ⟨0, _⟩ => show ((((b.val * 64 + c.val) * 64 + r.val) * 16 + h.val) * 64 + d.val) / 1024 = 4096 * b.val + 64 * c.val + r.val; omega
  | ⟨1, _⟩ => show ((((b.val * 64 + c.val) * 64 + r.val) * 16 + h.val) * 64 + d.val) % 1024 = 64 * h.val + d.val; omega

theorem score_at (x0 : (⟨S65536x4096, .bf16⟩ : BufTy).Contents (Elt Ideal)) (x1 : (⟨S65536x3072, .f32⟩ : BufTy).Contents (Elt Ideal)) (x2 : (⟨S16x257, .f32⟩ : BufTy).Contents (Elt Ideal))
    (b : Fin 16) (c r : Fin 64) (h : Fin 16) (j : Fin 576) :
    val_main_v177 (F := Ideal) x0 x1 x2 (ix5 b c h r j) = score x0 x1 x2 b c r h j := by
  rw [val_main_v177_apply, val_main_call5_v1_apply, val_main_v176_apply]
  have em : (val_main_v169 (F := Ideal)) (idx_main_v176 (idx_main_call5_v1 (ix5 b c h r j))) = if 512 ≤ 64 * c.val + j.val then 1#1 else 0#1 := by
    refine (congrArg _ ?_).trans (valid_at c j)
    funext a; match a with
    | ⟨0, _⟩ => rfl
    | ⟨1, _⟩ => rfl
  rw [em]
  unfold score
  by_cases hk : 512 ≤ 64 * c.val + j.val
  · rw [if_pos hk, if_pos hk]
    refine (if_pos rfl).trans ?_
    rw [val_main_v175_apply, val_main_v172_apply, val_main_v170_apply, val_main_v174_apply, val_main_v173_apply]
    have e2 : idx_main_v173 (idx_main_v174 (ix5 b c h r j)) = ix3 h r j := by
      funext a; match a with
      | ⟨0, _⟩ => rfl
      | ⟨1, _⟩ => rfl
      | ⟨2, _⟩ => rfl
    rw [e2]
    refine congrArg₂ (@HAdd.hAdd EReal EReal EReal instHAdd) (congrArg₂ (@HMul.hMul EReal EReal EReal instHMul) (Finset.sum_congr rfl fun d _ => ?_) ?_) rfl
    · have el : lidx_main_v170 (ix5 b c h r j) d = ix5 b c r h d := by
        funext a; match a with
        | ⟨0, _⟩ => rfl
        | ⟨1, _⟩ => rfl
        | ⟨2, _⟩ => rfl
        | ⟨3, _⟩ => rfl
        | ⟨4, _⟩ => rfl
      have er : ridx_main_v170 (ix5 b c h r j) d = ix5 b c j h d := by
        funext a; match a with
        | ⟨0, _⟩ => rfl
        | ⟨1, _⟩ => rfl
        | ⟨2, _⟩ => rfl
        | ⟨3, _⟩ => rfl
        | ⟨4, _⟩ => rfl
      rw [el, er, query_at, key_at x1 b c j hk h d]
    · rw [val_main_v171_apply]; rfl
  · rw [if_neg hk, if_neg hk]
    refine (if_neg (by decide)).trans ?_
    rw [val_main_call5_v2_apply]
    exact bits_negInf

/-- The reference's row maximum. -/
theorem max_at (x0 : (⟨S65536x4096, .bf16⟩ : BufTy).Contents (Elt Ideal)) (x1 : (⟨S65536x3072, .f32⟩ : BufTy).Contents (Elt Ideal)) (x2 : (⟨S16x257, .f32⟩ : BufTy).Contents (Elt Ideal))
    (b : Fin 16) (c r : Fin 64) (h : Fin 16) :
    val_main_v180 (F := Ideal) x0 x1 x2 (ix4 b c h r) = rowMax (score x0 x1 x2 b c r h) := by
  have e1 : val_main_v179 (F := Ideal) (ix4 b c h r) = (⊥ : EReal) := by
    rw [val_main_v179_apply]; exact bits_negInf
  have e2 : val_main_v178 (F := Ideal) x0 x1 x2 (ix4 b c h r) = rowMax (score x0 x1 x2 b c r h) := by
    unfold val_main_v178
    have hs := fun j => score_at x0 x1 x2 b c r h j
    generalize val_main_v177 (F := Ideal) x0 x1 x2 = y at hs
    pointwise [val_main_cst_11]
    rw [bits_negInf]
    unfold rowMax
    exact congrArg (fun f : Fin 576 → EReal => Finset.fold max ⊥ f Finset.univ) (funext hs)
  rw [val_main_v180_apply, e1, e2]
  exact max_eq_right bot_le

/-- The reference's exponentials. -/
theorem exp_at (x0 : (⟨S65536x4096, .bf16⟩ : BufTy).Contents (Elt Ideal)) (x1 : (⟨S65536x3072, .f32⟩ : BufTy).Contents (Elt Ideal)) (x2 : (⟨S16x257, .f32⟩ : BufTy).Contents (Elt Ideal))
    (b : Fin 16) (c r : Fin 64) (h : Fin 16) (j : Fin 576) :
    val_main_v184 (F := Ideal) x0 x1 x2 (ix5 b c h r j) = rowExp (score x0 x1 x2 b c r h) j := by
  rw [val_main_v184_apply, val_main_v183_apply, score_at, val_main_v182_apply, val_main_v181_apply]
  have e : idx_main_v181 (idx_main_v182 (ix5 b c h r j)) = ix4 b c h r := by
    funext a; match a with
    | ⟨0, _⟩ => rfl
    | ⟨1, _⟩ => rfl
    | ⟨2, _⟩ => rfl
    | ⟨3, _⟩ => rfl
  rw [e, max_at]
  rfl

theorem bits_zero : Ideal.ofBits .f32 0#32 = 0 := by
  simp [Ideal.ofBits, Ideal.ieee]

/-- The reference's row sum. -/
theorem sum_at (x0 : (⟨S65536x4096, .bf16⟩ : BufTy).Contents (Elt Ideal)) (x1 : (⟨S65536x3072, .f32⟩ : BufTy).Contents (Elt Ideal)) (x2 : (⟨S16x257, .f32⟩ : BufTy).Contents (Elt Ideal))
    (b : Fin 16) (c r : Fin 64) (h : Fin 16) :
    val_main_v185 (F := Ideal) x0 x1 x2 (ix4 b c h r) = ∑ j, rowExp (score x0 x1 x2 b c r h) j := by
  rw [val_main_v185_apply]
  have e0 : ∀ z, (val_main_cst_13 (F := Ideal)) z = (0 : EReal) := fun _ => bits_zero
  rw [e0]
  refine (zero_add _).trans (Finset.sum_congr rfl fun j _ => ?_)
  refine (congrArg _ ?_).trans (exp_at x0 x1 x2 b c r h j)
  funext a; match a with
  | ⟨0, _⟩ => rfl
  | ⟨1, _⟩ => rfl
  | ⟨2, _⟩ => rfl
  | ⟨3, _⟩ => rfl
  | ⟨4, _⟩ => rfl

/-- The reference's result at an index: the values weighted by the softmax of the scores. -/
theorem result_at (x0 : (⟨S65536x4096, .bf16⟩ : BufTy).Contents (Elt Ideal)) (x1 : (⟨S65536x3072, .f32⟩ : BufTy).Contents (Elt Ideal)) (x2 : (⟨S16x257, .f32⟩ : BufTy).Contents (Elt Ideal))
    (b : Fin 16) (c r : Fin 64) (h : Fin 16) (l : Fin 64) :
    val_main_v192 (F := Ideal) x0 x1 x2 (ix2 ⟨4096 * b.val + 64 * c.val + r.val, by omega⟩ ⟨64 * h.val + l.val, by omega⟩)
    = ∑ j, @HMul.hMul EReal EReal EReal instHMul (val_main_v165 (F := Ideal) x1 (ix5 b c j h l))
        (Ideal.div (rowExp (score x0 x1 x2 b c r h) j) (∑ i, rowExp (score x0 x1 x2 b c r h) i)) := by
  rw [val_main_v192_apply, val_main_v191_apply, val_main_v190_apply]
  have e : idx_main_v190 (idx_main_v191 (ix2 ⟨4096 * b.val + 64 * c.val + r.val, by omega⟩ ⟨64 * h.val + l.val, by omega⟩)) = ix5 b c h l r := by
    funext a
    refine Fin.ext ?_
    match a with
    | ⟨0, _⟩ => show ((4096 * b.val + 64 * c.val + r.val) * 1024 + (64 * h.val + l.val)) / 4194304 = b.val; omega
    | ⟨1, _⟩ => show ((4096 * b.val + 64 * c.val + r.val) * 1024 + (64 * h.val + l.val)) / 65536 % 64 = c.val; omega
    | ⟨2, _⟩ => show ((4096 * b.val + 64 * c.val + r.val) * 1024 + (64 * h.val + l.val)) / 64 % 16 = h.val; omega
    | ⟨3, _⟩ => show ((4096 * b.val + 64 * c.val + r.val) * 1024 + (64 * h.val + l.val)) % 64 = l.val; omega
    | ⟨4, _⟩ => show ((4096 * b.val + 64 * c.val + r.val) * 1024 + (64 * h.val + l.val)) / 1024 % 64 = r.val; omega
  rw [e, val_main_v189_apply]
  refine Finset.sum_congr rfl fun j _ => ?_
  have el : lidx_main_v189 (ix5 b c h l r) j = ix5 b c j h l := by
    funext a; match a with
    | ⟨0, _⟩ => rfl
    | ⟨1, _⟩ => rfl
    | ⟨2, _⟩ => rfl
    | ⟨3, _⟩ => rfl
    | ⟨4, _⟩ => rfl
  have er : ridx_main_v189 (ix5 b c h l r) j = ix5 b c h r j := by
    funext a; match a with
    | ⟨0, _⟩ => rfl
    | ⟨1, _⟩ => rfl
    | ⟨2, _⟩ => rfl
    | ⟨3, _⟩ => rfl
    | ⟨4, _⟩ => rfl
  rw [el, er, val_main_v188_apply, exp_at, val_main_v187_apply, val_main_v186_apply]
  have es : idx_main_v186 (idx_main_v187 (ix5 b c h r j)) = ix4 b c h r := by
    funext a; match a with
    | ⟨0, _⟩ => rfl
    | ⟨1, _⟩ => rfl
    | ⟨2, _⟩ => rfl
    | ⟨3, _⟩ => rfl
  rw [es, sum_at]
  rfl

end Cert.ReferenceIdeal.Band

end
-- ==== Proof.Value1.lean ====
module

public import proofs.«01_k».proof.Defs
public import proofs.«01_k».proof.Proof.Attn7
public import proofs.«01_k».proof.Proof.AttnFin
public import proofs.«01_k».proof.Proof.AttnRefB
public import Idealize.ShloMosaic.Lib.Claim
public import Idealize.ShloMosaic.Lib.Pipeline.ValueKit
public import Idealize.ShloMosaic.Lib.Pointwise

@[expose] public section

set_option maxRecDepth 16384

/-!
# The banded attention computes the reference's attention

  A block of 512 query rows is eight chunks of 64. Each chunk attends to its own 64 keys and the 512 before them, those
  before the start of the sequence masked. Its scores are the reference's, so its weights and its results are.
-/

noncomputable section

namespace Cert.KernelIdeal.BandAttention

open Cert.KernelIdeal Cert.KernelIdeal.Gen Idealize.ShloMosaic Idealize.ShloMosaic.TcCoe Idealize.SL.Sem

open Cert.ReferenceIdeal.Read Cert.ReferenceIdeal.Band

variable (m : (ℓ : Loc nD τ sig) → Buf (Elt Ideal) ℓ)

/-! ## One eighth -/

theorem eighth_val : eighth = ((1 / 8 : ℝ) : EReal) := by
  unfold eighth
  show Ideal.ofBits .bf16 0x3E00#16 = _
  simp [Ideal.ofBits, Ideal.ieee]
  rw [← EReal.coe_mul]
  norm_num

theorem eighth32_val : eighth32 = ((1 / 8 : ℝ) : EReal) := by
  unfold eighth32
  show Ideal.ofBits .f32 0x3E000000#32 = _
  simp [Ideal.ofBits, Ideal.ieee]
  rw [← EReal.coe_mul]
  norm_num

theorem eighth_eq : eighth = eighth32 := eighth_val.trans eighth32_val.symm

theorem eighth32_nonneg : 0 ≤ eighth32 := by
  rw [eighth32_val]
  exact EReal.coe_nonneg.mpr (by norm_num)

theorem eighth32_real : Real1 eighth32 := by
  rw [eighth32_val]
  exact ⟨EReal.coe_ne_top _, EReal.coe_ne_bot _⟩

/-! ## The scores of finite queries, keys and biases -/

section Scores
variable (x0 : Vec Ideal S65536x4096 .bf16) (x1 : Vec Ideal S65536x3072 .f32) (x2 : Vec Ideal S16x257 .f32)
variable (h0 : ∀ (r : Fin 65536) (d : Fin 4096), d.val < 1024 → Real1 (x0 (ix2 r d))) (h1 : ∀ (r : Fin 65536) (d : Fin 3072), d.val < 1024 → Real1 (x1 (ix2 r d))) (h2 : ∀ i, Real1 (x2 i))
variable (b : Fin 16) (q r : Fin 64) (h : Fin 16)

include h0 h1 h2

theorem score_real (j : Fin 576) (hj : 512 ≤ 64 * q.val + j.val) : Real1 (score x0 x1 x2 b q r h j) := by
  unfold score
  rw [if_pos hj]
  exact ((Real1.sum _ _ fun d => (h0 _ _ (by dsimp only; omega)).mul (h1 _ _ (by dsimp only; omega))).mul eighth32_real).add (bias_all x2 Real1 h2 _)

theorem score_ne_top (j : Fin 576) : score x0 x1 x2 b q r h j ≠ ⊤ := by
  by_cases hj : 512 ≤ 64 * q.val + j.val
  · exact (score_real x0 x1 x2 h0 h1 h2 b q r h j hj).1
  · unfold score
    rw [if_neg hj]
    exact bot_ne_top

theorem max_ne_top : rowMax (score x0 x1 x2 b q r h) ≠ ⊤ := by
  obtain ⟨j, hj⟩ := exists_rowMax (score x0 x1 x2 b q r h)
  rw [← hj]
  exact score_ne_top x0 x1 x2 h0 h1 h2 b q r h j

theorem max_ne_bot : rowMax (score x0 x1 x2 b q r h) ≠ ⊥ := fun e =>
  (score_real x0 x1 x2 h0 h1 h2 b q r h ⟨575, by omega⟩ (by dsimp only; omega)).2
    (le_bot_iff.mp ((le_rowMax _ _).trans (le_of_eq e)))

end Scores

/-! ## A program's result elements -/

section Cells
variable (c : Dev nD) (t : Fin cfg0.N)

theorem t_lt : t.val < 128 := lt_of_lt_of_eq t.isLt N_0

/-- The batch of a block and the chunk of one of its eight. -/
def batch : Fin 16 := ⟨t.val / 8, by have := t_lt t; omega⟩
def bandChunk (k : Fin 8) : Fin 64 := ⟨t.val % 8 * 8 + k.val, by omega⟩

/-- A program's score is the reference's. -/
theorem score_eq (keep : Fin 8 → Fin 576 → Prop) [∀ k, DecidablePred (keep k)]
    (hkeep : ∀ k j, keep k j ↔ 512 ≤ 64 * (bandChunk t k).val + j.val) (k : Fin 8) (r : Fin 64) (h : Fin 16) (j : Fin 576) :
    (if keep k j then @HAdd.hAdd EReal EReal EReal instHAdd (∑ d : Fin 64, @HMul.hMul EReal EReal EReal instHMul
      (@HMul.hMul EReal EReal EReal instHMul ((iblk m c 0 t : Vec Ideal S512x1024 .bf16) (ix2 ⟨64 * k.val + r.val, by omega⟩ ⟨64 * h.val + d.val, by omega⟩)) eighth)
      (rows (iblk m c 1 t) (iblk m c 2 t) (64 * k.val + j.val) (by omega) ⟨64 * h.val + d.val, by omega⟩)) ((iblk m c 5 t : Vec Ideal S16x64x576 .f32) (ix3 h r j)) else ⊥)
      = score (m ((c : Thread nD τ).loc main_arg0)) (m ((c : Thread nD τ).loc main_arg1)) (m ((c : Thread nD τ).loc main_arg2)) (batch t) (bandChunk t k) r h j := by
  have ht := t_lt t
  have hb : (batch t).val = t.val / 8 := rfl
  have hc : (bandChunk t k).val = t.val % 8 * 8 + k.val := rfl
  unfold score
  by_cases hj : 512 ≤ 64 * (bandChunk t k).val + j.val
  · rw [if_pos ((hkeep k j).2 hj), if_pos hj]
    refine congrArg₂ (fun x y : EReal => x + y) ?_ (blk5 m c t h r j)
    rw [sum_mul_const _ _ _ eighth32_nonneg eighth32_real.1]
    refine Finset.sum_congr rfl fun d _ => ?_
    rw [blk0 m c t _ _ (by dsimp only; omega), rows_k m c t (64 * k.val + j.val) (by omega) (fun h8 => by omega) _ (by omega), eighth_eq]
    refine (mul_right_comm _ _ _).trans ?_
    refine congrArg (fun x : EReal => x * eighth32) (congrArg₂ (fun x y : EReal => x * y) ?_ ?_)
    · exact congrArg (fun z => m ((c : Thread nD τ).loc main_arg0) (ix2 z ⟨64 * h.val + d.val, by omega⟩)) (Fin.ext (by dsimp only; omega))
    · exact congrArg (fun z => m ((c : Thread nD τ).loc main_arg1) (ix2 z ⟨64 * h.val + d.val, by omega⟩)) (Fin.ext (by dsimp only; omega))
  · rw [if_neg (fun hk => hj ((hkeep k j).1 hk)), if_neg hj]

variable (h0 : ∀ (r : Fin 65536) (d : Fin 4096), d.val < 1024 → Real1 (m ((c : Thread nD τ).loc main_arg0) (ix2 r d)))
    (h1 : ∀ (r : Fin 65536) (d : Fin 3072), d.val < 1024 → Real1 (m ((c : Thread nD τ).loc main_arg1) (ix2 r d)))
    (h2 : ∀ i, Real1 (m ((c : Thread nD τ).loc main_arg2) i))

include h0 h1 h2

/-- A program's result element is the reference's. -/
theorem cell_eq (keep : Fin 8 → Fin 576 → Prop) [∀ k, DecidablePred (keep k)]
    (hkeep : ∀ k j, keep k j ↔ 512 ≤ 64 * (bandChunk t k).val + j.val) (k : Fin 8) (r : Fin 64) (h : Fin 16) (l : Fin 64)
    (hr : t.val * 512 + (64 * k.val + r.val) < 65536) :
    cell keep (iblk m c 0 t) (iblk m c 1 t) (iblk m c 2 t) (iblk m c 3 t) (iblk m c 4 t) (iblk m c 5 t) k r h l
      = val_main_v192 (F := Ideal) (m ((c : Thread nD τ).loc main_arg0)) (m ((c : Thread nD τ).loc main_arg1)) (m ((c : Thread nD τ).loc main_arg2))
          (ix2 ⟨t.val * 512 + (64 * k.val + r.val), hr⟩ ⟨64 * h.val + l.val, by omega⟩) := by
  have ht := t_lt t
  have hb : (batch t).val = t.val / 8 := rfl
  have hc : (bandChunk t k).val = t.val % 8 * 8 + k.val := rfl
  unfold cell
  rw [funext (score_eq m c t keep hkeep k r h)]
  refine (rowMix_congr _ _ (fun j => val_main_v165 (F := Ideal) (m ((c : Thread nD τ).loc main_arg1)) (ix5 (batch t) (bandChunk t k) j h l))
    (max_ne_bot _ _ _ h0 h1 h2 _ _ _ _) fun j hj => ?_).trans ?_
  · have hk : 512 ≤ 64 * (bandChunk t k).val + j.val := by
      by_contra hn
      refine hj ?_
      unfold score
      rw [if_neg hn]
    rw [value_at _ _ _ _ hk, rows_v m c t (64 * k.val + j.val) (by omega) (fun h8 => by omega) _ (by omega)]
    exact congrArg (fun z => m ((c : Thread nD τ).loc main_arg1) (ix2 z ⟨1024 + (64 * h.val + l.val), by omega⟩)) (Fin.ext (by dsimp only; omega))
  · rw [← rowMix_eq _ _ (max_ne_top _ _ _ h0 h1 h2 _ _ _ _) (max_ne_bot _ _ _ h0 h1 h2 _ _ _ _)]
    refine (result_at _ _ _ (batch t) (bandChunk t k) r h l).symm.trans ?_
    exact congrArg (fun z => val_main_v192 (F := Ideal) (m ((c : Thread nD τ).loc main_arg0)) (m ((c : Thread nD τ).loc main_arg1)) (m ((c : Thread nD τ).loc main_arg2)) (ix2 z ⟨64 * h.val + l.val, by omega⟩))
      (Fin.ext (by dsimp only; omega))

/-- What a program leaves at an index. -/
theorem out_eq (y : S512x1024.Idx) (hy : t.val * 512 + (y 0).val < 65536) (hy1 : (y 1).val < 1024) :
    (outsAt0 m c t.val t.isLt : Vec Ideal S512x1024 .bf16) y
      = val_main_v192 (F := Ideal) (m ((c : Thread nD τ).loc main_arg0)) (m ((c : Thread nD τ).loc main_arg1)) (m ((c : Thread nD τ).loc main_arg2))
          (ix2 ⟨t.val * 512 + (y 0).val, hy⟩ ⟨(y 1).val, hy1⟩) := by
  have ht := t_lt t
  have hy0 : (y 0).val < 512 := (y 0).isLt
  have e0 : (y 0).val = 64 * ((y 0).val / 64) + (y 0).val % 64 := by omega
  have e1 : (y 1).val = 64 * ((y 1).val / 64) + (y 1).val % 64 := by omega
  have key : ∀ (keep : Fin 8 → Fin 576 → Prop) [∀ k, DecidablePred (keep k)],
      (∀ k j, keep k j ↔ 512 ≤ 64 * (bandChunk t k).val + j.val) →
      cellAt keep (iblk m c 0 t) (iblk m c 1 t) (iblk m c 2 t) (iblk m c 3 t) (iblk m c 4 t) (iblk m c 5 t) y
      = val_main_v192 (F := Ideal) (m ((c : Thread nD τ).loc main_arg0)) (m ((c : Thread nD τ).loc main_arg1)) (m ((c : Thread nD τ).loc main_arg2))
          (ix2 ⟨t.val * 512 + (y 0).val, hy⟩ ⟨(y 1).val, hy1⟩) := by
    intro keep _ hkeep
    rw [cellAt_of keep _ _ _ _ _ _ y ⟨(y 0).val / 64, by omega⟩ ⟨(y 0).val % 64, by omega⟩ ⟨(y 1).val / 64, by omega⟩ ⟨(y 1).val % 64, by omega⟩ e0 e1]
    refine (cell_eq m c t h0 h1 h2 keep hkeep _ _ _ _ (by dsimp only; omega)).trans ?_
    refine congrArg (val_main_v192 (F := Ideal) (m ((c : Thread nD τ).loc main_arg0)) (m ((c : Thread nD τ).loc main_arg1)) (m ((c : Thread nD τ).loc main_arg2))) ?_
    refine congrArg₂ ix2 (Fin.ext (by dsimp only; omega)) (Fin.ext (by dsimp only; omega))
  by_cases h8 : t.val % 8 = 0
  · rw [out_A m c t h8]
    refine key keepA fun k j => ?_
    have hc : (bandChunk t k).val = t.val % 8 * 8 + k.val := rfl
    unfold keepA
    omega
  · rw [out_B m c t h8]
    refine key keepB fun k j => ?_
    have hc : (bandChunk t k).val = t.val % 8 * 8 + k.val := rfl
    unfold keepB
    exact ⟨fun _ => by omega, fun _ => trivial⟩

end Cells

/-- Of finite queries, keys and table, the kernel's result array is the reference's. -/
theorem final [Cert.Pre_finite.Facts] (hpre : Cert.Pre_KernelIdeal_finite m) (c : Dev nD) : (dats m 0 c).arrAt 6 (cfgs 0).N
    = val_main_v192 (F := Ideal) (m ((c : Thread nD τ).loc main_arg0)) (m ((c : Thread nD τ).loc main_arg1)) (m ((c : Thread nD τ).loc main_arg2)) := by
  obtain ⟨h0, h1, h2⟩ := real_args _ _ _ (hpre c)
  refine (dats m 0 c).arrAt_eq_of_covers 6 _ (by decide +kernel) fun t _ y => ?_
  blk_simp
  rw [after0_6]
  have ht := t_lt t
  have hy0 : (y 0).val < 512 := (y 0).isLt
  refine (out_eq m c t h0 h1 h2 y (by omega) (y 1).isLt).trans (congrArg _ ?_)
  blk_ext [idx t]

end Cert.KernelIdeal.BandAttention

end
-- ==== Proof.AttnRun.lean ====
module

public import proofs.«01_k».proof.Proof.Gen.ReferenceIdeal.Run
public import proofs.«01_k».proof.Proof.Gen.ReferenceIdeal.Read
public import Idealize.ShloMosaic.Lib.Claim
public import Idealize.ShloMosaic.Lib.Pipeline.ValueKit
public import Idealize.ShloMosaic.Lib.Pointwise

@[expose] public section

set_option maxRecDepth 16384

/-!
# The reference's run

  The reference's result array after its run, as the last of its stages.
-/

noncomputable section

namespace Cert.ReferenceIdeal.Band

open Cert.ReferenceIdeal Cert.ReferenceIdeal.Read Idealize.ShloMosaic Idealize.ShloMosaic.TcCoe Idealize.SL.Sem

set_option maxHeartbeats 8000000 in
/-- The reference runs to its end, its result array the last stage of its arguments, which it leaves unchanged. -/
theorem run_at (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v192) = val_main_v192 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono (fun _ h c => ⟨(h c).1.trans (val_main_v192_eq (F := Ideal) (StableHlo.launchContents m c)), (h c).2⟩)
    (Value.run (F := Ideal) m ρ)

end Cert.ReferenceIdeal.Band

end
-- ==== Proof.Value3.lean ====
module

public import proofs.«01_k».proof.Proof.Gen.Kernel3Ideal.Frame
public import proofs.«01_k».proof.Proof.Gen.Reference3Ideal.Run
public import proofs.«01_k».proof.Proof.Gen.Reference3Ideal.Read
public import Idealize.ShloMosaic.Lib.Claim
public import Idealize.ShloMosaic.Lib.Pipeline.ValueKit
public import Idealize.ShloMosaic.Lib.Pointwise

@[expose] public section

set_option maxRecDepth 16384

/-!
The two result arrays of the normalised input projection, as functions of the arguments.
-/

noncomputable section

namespace Cert.Kernel3Ideal.InputProjection

open Cert.Kernel3Ideal Cert.Kernel3Ideal.Gen Idealize.ShloMosaic Idealize.ShloMosaic.TcCoe Idealize.SL.Sem
open Idealize.ShloMosaic.Pipeline (Dat)
open Cert.Reference3Ideal.Read

variable (m : (ℓ : Loc nD τ sig) → Buf (Elt Ideal) ℓ)

/-- The block index of every window at every grid point. -/
theorem idx : ∀ t : Fin cfg0.N, win0_0.index t = ![t.val, 0] ∧ win0_1.index t = ![0, 0]
    ∧ win0_2.index t = ![0, 0] ∧ win0_3.index t = ![t.val, 0] ∧ win0_4.index t = ![t.val, 0] :=
  (by decide +kernel : ∀ t : Fin grid0.N, _)

/-- Reading each input block at an index: which element of which argument it is. -/
theorem blk0 (c : Dev nD) (t : Fin cfg0.N) (r : Fin 256) (l : Fin 1024) (h : (t.val * 256 + r.val) < 65536) :
    (iblk m c 0 t : Vec Ideal S256x1024 .f32) (ix2 r l) = m ((c : Thread nD τ).loc main_arg0) (ix3 ⟨(t.val * 256 + r.val) / 4096, by omega⟩ ⟨(t.val * 256 + r.val) % 4096, by omega⟩ l) := by
  blk_simp [iblk, idx t]; entry_read; pointwise; blk_ext [idx t]
theorem blk1 (c : Dev nD) (t : Fin cfg0.N) (l : Fin 1024) :
    (iblk m c 1 t : Vec Ideal S1x1024 .f32) (ix2 0 l) = m ((c : Thread nD τ).loc main_arg1) (ix1 l) := by
  blk_simp [iblk, idx t]; entry_read; pointwise; blk_ext [idx t]
theorem blk2 (c : Dev nD) (t : Fin cfg0.N) (k : Fin 1024) (l : Fin 7168) :
    (iblk m c 2 t : Vec Ideal S1024x7168 .bf16) (ix2 k l) = m ((c : Thread nD τ).loc main_arg2) (ix2 k l) := by
  blk_simp [iblk, idx t]; entry_read; pointwise; blk_ext [idx t]

/-- The normalised row at an index of its block. -/
theorem xn_at (c : Dev nD) (t : Fin cfg0.N) (r : Fin 256) (l : Fin 1024) (h : (t.val * 256 + r.val) < 65536) :
    k0_pay5 (F := Ideal) (iblk m c 0 t) (iblk m c 1 t) (ix2 r l)
    = val_main_v12 (F := Ideal) (m ((c : Thread nD τ).loc main_arg0)) (m ((c : Thread nD τ).loc main_arg1)) (ix3 ⟨(t.val * 256 + r.val) / 4096, by omega⟩ ⟨(t.val * 256 + r.val) % 4096, by omega⟩ l) := by
  pointwise [k0_pay5, val_main_v12, val_main_v11, val_main_v10, val_main_v9, val_main_v8, val_main_v7, val_main_v6, val_main_v5, val_main_v4, val_main_v3, val_main_v2, val_main_v1, val_main_v0, val_main_cst_1, val_main_cst_0, val_main_cst]
  simp only [blk0 m c t _ _ h, blk1]

/-- A load of a whole block is the block. -/
theorem ld_a {e : EltTy} (X : Vec Ideal S256x1024 e) : View.ld X r0_0 = X := View.ld_unit_lit _ X (by decide)
theorem ld_b {e : EltTy} (X : Vec Ideal S1x1024 e) : View.ld X r0_1 = X := View.ld_unit_lit _ X (by decide)

/-- The projection of a normalised row at an index of its block, for any column of the weights. -/
theorem dot_at (c : Dev nD) (t : Fin cfg0.N) (r : Fin 256) (l : Fin 7168) (h : (t.val * 256 + r.val) < 65536) :
    (∑ k : Fin 1024, @HMul.hMul EReal EReal EReal instHMul (k0_pay5 (F := Ideal) (View.ld (iblk m c 0 t) r0_0) (View.ld (iblk m c 1 t) r0_1) (ix2 r k))
      ((iblk m c 2 t : Vec Ideal S1024x7168 .bf16) (ix2 k l)))
    = ∑ k : Fin 1024, @HMul.hMul EReal EReal EReal instHMul (val_main_v12 (F := Ideal) (m ((c : Thread nD τ).loc main_arg0)) (m ((c : Thread nD τ).loc main_arg1)) (ix3 ⟨(t.val * 256 + r.val) / 4096, by omega⟩ ⟨(t.val * 256 + r.val) % 4096, by omega⟩ k))
      (m ((c : Thread nD τ).loc main_arg2) (ix2 k l)) := by
  refine Finset.sum_congr rfl fun k _ => ?_
  rw [ld_a, ld_b]
  exact congrArg₂ (fun a b : EReal => a * b) (xn_at m c t r k h) (blk2 m c t k l)

/-- The same with the row and the column named apart on the two sides. -/
theorem dot_eq (c : Dev nD) (t : Fin cfg0.N) (r r' : Fin 256) (l l' : Fin 7168) (h : (t.val * 256 + r'.val) < 65536)
    (hr : r'.val = r.val) (hl : l.val = l'.val) :
    (∑ k : Fin 1024, @HMul.hMul EReal EReal EReal instHMul (k0_pay5 (F := Ideal) (View.ld (iblk m c 0 t) r0_0) (View.ld (iblk m c 1 t) r0_1) (ix2 r k))
      ((iblk m c 2 t : Vec Ideal S1024x7168 .bf16) (ix2 k l)))
    = ∑ k : Fin 1024, @HMul.hMul EReal EReal EReal instHMul (val_main_v12 (F := Ideal) (m ((c : Thread nD τ).loc main_arg0)) (m ((c : Thread nD τ).loc main_arg1)) (ix3 ⟨(t.val * 256 + r'.val) / 4096, by omega⟩ ⟨(t.val * 256 + r'.val) % 4096, by omega⟩ k))
      (m ((c : Thread nD τ).loc main_arg2) (ix2 k l')) := by
  obtain rfl : r' = r := Fin.ext hr
  obtain rfl : l = l' := Fin.ext hl
  exact dot_at m c t r' l h

set_option maxHeartbeats 400000 in
/-- What the body leaves at a block index of the first output is the reference's element at the array index it sits at. -/
theorem point3 (c : Dev nD) (t : Fin cfg0.N) (y) :
    out0_3 (F := Ideal) (iblk m c 0 t) (iblk m c 1 t) (iblk m c 2 t) y
    = val_main_v15 (F := Ideal) (m ((c : Thread nD τ).loc main_arg0)) (m ((c : Thread nD τ).loc main_arg1)) (m ((c : Thread nD τ).loc main_arg2)) (((cfg0.win 3).blk t).view.emb y) := by
  have ht : t.val < 256 := lt_of_lt_of_eq t.isLt N_0
  unfold_out out0_3
  canon_tiles x h
  all_goals
    idx_vars x
    idx_vars y
    pointwise [k0_pay1, k0_pay2, k0_pay3, k0_pay4, k0_pay6, k0_pay7, k0_pay8, k0_pay9, val_main_v15, val_main_v14, val_main_v13]
    blk_simp [idx t]
    first
      | (have e := dot_eq m c t x0 y0 ⟨3072 + x1.val, by omega⟩ ⟨1024 + y1.val, by omega⟩ (by omega) h0 (by dsimp only; omega)
         refine e.trans ?_
         with_reducible rfl)
      | (have e := dot_eq m c t x0 y0 ⟨2048 + x1.val, by omega⟩ ⟨1024 + y1.val, by omega⟩ (by omega) h0 (by dsimp only; omega)
         refine e.trans ?_
         with_reducible rfl)
      | (have e := dot_eq m c t x0 y0 ⟨1024 + x1.val, by omega⟩ ⟨1024 + y1.val, by omega⟩ (by omega) h0 (by dsimp only; omega)
         refine e.trans ?_
         with_reducible rfl)

/-- The first result array after the run is the reference's. -/
theorem final3 (c : Dev nD) : (dats m 0 c).arrAt 3 (cfgs 0).N
    = val_main_v15 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point3 m c t y

set_option maxHeartbeats 400000 in
/-- What the body leaves at a block index of the second output is the reference's element at the array index it sits at. -/
theorem point4 (c : Dev nD) (t : Fin cfg0.N) (y) :
    out0_4 (F := Ideal) (iblk m c 0 t) (iblk m c 1 t) (iblk m c 2 t) y
    = val_main_v19 (F := Ideal) (m ((c : Thread nD τ).loc main_arg0)) (m ((c : Thread nD τ).loc main_arg1)) (m ((c : Thread nD τ).loc main_arg2)) (((cfg0.win 4).blk t).view.emb y) := by
  have ht : t.val < 256 := lt_of_lt_of_eq t.isLt N_0
  unfold_out out0_4
  canon_tiles x h
  all_goals
    idx_vars x
    idx_vars y
    pointwise [k0_pay1, k0_pay2, k0_pay3, k0_pay4, k0_pay6, k0_pay7, k0_pay8, k0_pay9, val_main_v19, val_main_v18, val_main_v17, val_main_v16, val_main_v15, val_main_v14, val_main_v13]
    blk_simp [idx t]
    first
      | (rw [dif_pos (by omega)]
         have e := dot_eq m c t x0 y0 ⟨x1.val, by omega⟩ ⟨y1.val, by omega⟩ (by omega) h0 (by dsimp only; omega)
         refine e.trans ?_
         with_reducible rfl)
      | (rw [dif_neg (by omega)]
         have e := dot_eq m c t x0 y0 ⟨6144 + x1.val, by omega⟩ ⟨4096 + (y1.val - 1024), by omega⟩ (by omega) h0 (by dsimp only; omega)
         refine e.trans ?_
         with_reducible rfl)
      | (rw [dif_neg (by omega)]
         have e := dot_eq m c t x0 y0 ⟨5120 + x1.val, by omega⟩ ⟨4096 + (y1.val - 1024), by omega⟩ (by omega) h0 (by dsimp only; omega)
         refine e.trans ?_
         with_reducible rfl)
      | (rw [dif_neg (by omega)]
         have e := dot_eq m c t x0 y0 ⟨4096 + x1.val, by omega⟩ ⟨4096 + (y1.val - 1024), by omega⟩ (by omega) h0 (by dsimp only; omega)
         refine e.trans ?_
         with_reducible rfl)

/-- The second result array after the run is the reference's. -/
theorem final4 (c : Dev nD) : (dats m 0 c).arrAt 4 (cfgs 0).N
    = val_main_v19 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  exact point4 m c t y

end Cert.Kernel3Ideal.InputProjection

end
-- ==== Proof.Value4.lean ====
module

public import proofs.«01_k».proof.Proof.Gen.Kernel4Ideal.Frame
public import proofs.«01_k».proof.Proof.Gen.Reference4Ideal.Run
public import proofs.«01_k».proof.Proof.Gen.Reference4Ideal.Read
public import Idealize.ShloMosaic.Lib.Claim
public import Idealize.ShloMosaic.Lib.Pipeline.ValueKit
public import Idealize.ShloMosaic.Lib.Pointwise

@[expose] public section

set_option maxRecDepth 16384

/-!
The three result arrays of the branch merge, output projection and expert query, as functions of the arguments.
-/

noncomputable section

namespace Cert.Kernel4Ideal.BranchMerge

open Cert.Kernel4Ideal Cert.Kernel4Ideal.Gen Idealize.ShloMosaic Idealize.ShloMosaic.TcCoe Idealize.SL.Sem
open Idealize.ShloMosaic.Pipeline (Dat)
open Cert.Reference4Ideal.Read

variable (m : (ℓ : Loc nD τ sig) → Buf (Elt Ideal) ℓ)

/-- The block index of every window at every grid point. -/
theorem idx : ∀ t : Fin cfg0.N, win0_0.index t = ![t.val, 0] ∧ win0_1.index t = ![t.val, 0]
    ∧ win0_2.index t = ![t.val, 0] ∧ win0_3.index t = ![t.val, 2] ∧ win0_4.index t = ![t.val, 3]
    ∧ win0_5.index t = ![0, 0] ∧ win0_6.index t = ![0, 0] ∧ win0_7.index t = ![0, 0] ∧ win0_8.index t = ![0, 0]
    ∧ win0_9.index t = ![0, 0] ∧ win0_10.index t = ![t.val, 0] ∧ win0_11.index t = ![t.val, 0, 0]
    ∧ win0_12.index t = ![t.val, 0] :=
  (by decide +kernel : ∀ t : Fin grid0.N, _)

/-- Reading each input block at an index: which element of which argument it is. -/
theorem blk0 (c : Dev nD) (t : Fin cfg0.N) (r : Fin 512) (l : Fin 1024) (h : (t.val * 512 + r.val) < 65536) :
    (iblk m c 0 t : Vec Ideal S512x1024 .f32) (ix2 r l) = m ((c : Thread nD τ).loc main_arg0) (ix3 ⟨(t.val * 512 + r.val) / 4096, by omega⟩ ⟨(t.val * 512 + r.val) % 4096, by omega⟩ l) := by
  blk_simp [iblk, idx t]; entry_read; pointwise; blk_ext [idx t]
theorem blk1 (c : Dev nD) (t : Fin cfg0.N) (r : Fin 512) (l : Fin 1024) (h : (t.val * 512 + r.val) < 65536) :
    (iblk m c 1 t : Vec Ideal S512x1024 .bf16) (ix2 r l) = m ((c : Thread nD τ).loc main_arg1) (ix2 ⟨t.val * 512 + r.val, h⟩ l) := by
  blk_ext [iblk, V, idx t]
theorem blk2 (c : Dev nD) (t : Fin cfg0.N) (r : Fin 512) (l : Fin 1024) (h : (t.val * 512 + r.val) < 65536) :
    (iblk m c 2 t : Vec Ideal S512x1024 .bf16) (ix2 r l) = m ((c : Thread nD τ).loc main_arg2) (ix2 ⟨t.val * 512 + r.val, h⟩ l) := by
  blk_ext [iblk, V, idx t]
theorem blk3 (c : Dev nD) (t : Fin cfg0.N) (r : Fin 512) (l : Fin 1024) (h : (t.val * 512 + r.val) < 65536) :
    (iblk m c 3 t : Vec Ideal S512x1024 .bf16) (ix2 r l) = m ((c : Thread nD τ).loc main_arg3) (ix2 ⟨t.val * 512 + r.val, h⟩ ⟨2048 + l.val, by omega⟩) := by
  blk_ext [iblk, V, idx t]
theorem blk4 (c : Dev nD) (t : Fin cfg0.N) (r : Fin 512) (l : Fin 1024) (h : (t.val * 512 + r.val) < 65536) :
    (iblk m c 4 t : Vec Ideal S512x1024 .bf16) (ix2 r l) = m ((c : Thread nD τ).loc main_arg3) (ix2 ⟨t.val * 512 + r.val, h⟩ ⟨3072 + l.val, by omega⟩) := by
  blk_ext [iblk, V, idx t]
theorem blk5 (c : Dev nD) (t : Fin cfg0.N) (k l : Fin 1024) :
    (iblk m c 5 t : Vec Ideal S1024x1024 .bf16) (ix2 k l) = m ((c : Thread nD τ).loc main_arg4) (ix2 k l) := by
  blk_simp [iblk, idx t]; entry_read; pointwise; blk_ext [idx t]
theorem blk6 (c : Dev nD) (t : Fin cfg0.N) (k l : Fin 1024) :
    (iblk m c 6 t : Vec Ideal S1024x1024 .bf16) (ix2 k l) = m ((c : Thread nD τ).loc main_arg5) (ix2 k l) := by
  blk_simp [iblk, idx t]; entry_read; pointwise; blk_ext [idx t]
theorem blk7 (c : Dev nD) (t : Fin cfg0.N) (k l : Fin 1024) :
    (iblk m c 7 t : Vec Ideal S1024x1024 .bf16) (ix2 k l) = m ((c : Thread nD τ).loc main_arg6) (ix2 k l) := by
  blk_simp [iblk, idx t]; entry_read; pointwise; blk_ext [idx t]
theorem blk8 (c : Dev nD) (t : Fin cfg0.N) (l : Fin 1024) :
    (iblk m c 8 t : Vec Ideal S1x1024 .f32) (ix2 0 l) = m ((c : Thread nD τ).loc main_arg7) (ix1 l) := by
  blk_simp [iblk, idx t]; entry_read; pointwise; blk_ext [idx t]
theorem blk9 (c : Dev nD) (t : Fin cfg0.N) (k : Fin 1024) (l : Fin 2048) :
    (iblk m c 9 t : Vec Ideal S1024x2048 .bf16) (ix2 k l) = m ((c : Thread nD τ).loc main_arg8) (ix2 k l) := by
  blk_simp [iblk, idx t]; entry_read; pointwise; blk_ext [idx t]

/-- The first output at an index of its block: the reference's residual stream. -/
theorem x1_at (c : Dev nD) (t : Fin cfg0.N) (r : Fin 512) (l : Fin 1024) (h : (t.val * 512 + r.val) < 65536) :
    k0_pay4 (F := Ideal) (iblk m c 1 t) (iblk m c 5 t) (iblk m c 2 t) (iblk m c 6 t) (iblk m c 3 t) (iblk m c 4 t) (iblk m c 0 t) (iblk m c 7 t) (ix2 r l)
    = val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 ⟨t.val * 512 + r.val, h⟩ l) := by
  pointwise [k0_pay4, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst_2, val_main_cst_1, val_main_cst_0, val_main_cst]
  simp only [blk0 m c t _ _ h, blk1 m c t _ _ h, blk2 m c t _ _ h, blk3 m c t _ _ h, blk4 m c t _ _ h, blk5, blk6, blk7]
  rfl

/-- The normalised residual stream at an index of its block. -/
theorem xt_at (c : Dev nD) (t : Fin cfg0.N) (r : Fin 512) (l : Fin 1024) (h : (t.val * 512 + r.val) < 65536) :
    k0_pay1 (F := Ideal) (k0_pay4 (F := Ideal) (iblk m c 1 t) (iblk m c 5 t) (iblk m c 2 t) (iblk m c 6 t) (iblk m c 3 t) (iblk m c 4 t) (iblk m c 0 t) (iblk m c 7 t)) (k0_pay5 (F := Ideal) (iblk m c 8 t)) (k0_pay6 (F := Ideal) (iblk m c 1 t) (iblk m c 5 t) (iblk m c 2 t) (iblk m c 6 t) (iblk m c 3 t) (iblk m c 4 t) (iblk m c 0 t) (iblk m c 7 t)) (Ideal.ofBits .f32 0x358637BD#32) (ix2 r l)
    = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 ⟨t.val * 512 + r.val, h⟩ l) := by
  pointwise [k0_pay1, k0_pay5, k0_pay6, val_main_v38, val_main_v37, val_main_v36, val_main_v35, val_main_v34, val_main_v33, val_main_v32, val_main_v31, val_main_v30, val_main_v29, val_main_v28, val_main_v27, val_main_v26, val_main_cst_5, val_main_cst_4, val_main_cst_3]
  simp only [x1_at m c t _ _ h, blk8]

/-- The second output at an index of its block. -/
theorem xt3_at (c : Dev nD) (t : Fin cfg0.N) (r : Fin 512) (a : Fin 8) (b : Fin 128) (h : (t.val * 512 + r.val) < 65536) :
    k0_pay2 (F := Ideal) (k0_pay4 (F := Ideal) (iblk m c 1 t) (iblk m c 5 t) (iblk m c 2 t) (iblk m c 6 t) (iblk m c 3 t) (iblk m c 4 t) (iblk m c 0 t) (iblk m c 7 t)) (k0_pay5 (F := Ideal) (iblk m c 8 t)) (k0_pay6 (F := Ideal) (iblk m c 1 t) (iblk m c 5 t) (iblk m c 2 t) (iblk m c 6 t) (iblk m c 3 t) (iblk m c 4 t) (iblk m c 0 t) (iblk m c 7 t)) (Ideal.ofBits .f32 0x358637BD#32) (ix3 r a b)
    = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 ⟨t.val * 512 + r.val, h⟩ a b) := by
  pointwise [k0_pay2, val_main_v39]
  simp only [xt_at m c t _ _ h]

/-- The third output at an index of its block. -/
theorem qp_at (c : Dev nD) (t : Fin cfg0.N) (r : Fin 512) (l : Fin 2048) (h : (t.val * 512 + r.val) < 65536) :
    k0_pay3 (F := Ideal) (k0_pay4 (F := Ideal) (iblk m c 1 t) (iblk m c 5 t) (iblk m c 2 t) (iblk m c 6 t) (iblk m c 3 t) (iblk m c 4 t) (iblk m c 0 t) (iblk m c 7 t)) (k0_pay5 (F := Ideal) (iblk m c 8 t)) (k0_pay6 (F := Ideal) (iblk m c 1 t) (iblk m c 5 t) (iblk m c 2 t) (iblk m c 6 t) (iblk m c 3 t) (iblk m c 4 t) (iblk m c 0 t) (iblk m c 7 t)) (Ideal.ofBits .f32 0x358637BD#32) (iblk m c 9 t) (ix2 r l)
    = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨t.val * 512 + r.val, h⟩ l) := by
  pointwise [k0_pay3, val_main_v41, val_main_v40]
  simp only [xt_at m c t _ _ h, blk9]

/-- A load of a whole block is the block. -/
theorem ld_a {e : EltTy} (X : Vec Ideal S512x1024 e) : View.ld X r0_0 = X := View.ld_unit_lit _ X (by decide)
theorem ld_b {e : EltTy} (X : Vec Ideal S1024x1024 e) : View.ld X r0_1 = X := View.ld_unit_lit _ X (by decide)
theorem ld_c {e : EltTy} (X : Vec Ideal S1x1024 e) : View.ld X r0_2 = X := View.ld_unit_lit _ X (by decide)

/-- The values the last two stores share, without their loads. -/
theorem pay7_eq (x0 : Vec Ideal S512x1024 .f32) (x1 : Vec Ideal S512x1024 .bf16) (x2 : Vec Ideal S512x1024 .bf16) (x3 : Vec Ideal S512x1024 .bf16) (x4 : Vec Ideal S512x1024 .bf16) (x5 : Vec Ideal S1024x1024 .bf16) (x6 : Vec Ideal S1024x1024 .bf16) (x7 : Vec Ideal S1024x1024 .bf16) (x8 : Vec Ideal S1x1024 .f32) (x9 : Vec Ideal S1024x2048 .bf16) : k0_pay7 (F := Ideal) x0 x1 x2 x3 x4 x5 x6 x7 x8 x9 = k0_pay4 x1 x5 x2 x6 x3 x4 x0 x7 := by
  unfold k0_pay7; simp only [ld_a, ld_b]
theorem pay8_eq (x0 : Vec Ideal S512x1024 .f32) (x1 : Vec Ideal S512x1024 .bf16) (x2 : Vec Ideal S512x1024 .bf16) (x3 : Vec Ideal S512x1024 .bf16) (x4 : Vec Ideal S512x1024 .bf16) (x5 : Vec Ideal S1024x1024 .bf16) (x6 : Vec Ideal S1024x1024 .bf16) (x7 : Vec Ideal S1024x1024 .bf16) (x8 : Vec Ideal S1x1024 .f32) (x9 : Vec Ideal S1024x2048 .bf16) : k0_pay8 (F := Ideal) x0 x1 x2 x3 x4 x5 x6 x7 x8 x9 = k0_pay5 x8 := by
  unfold k0_pay8; simp only [ld_c]
theorem pay9_eq (x0 : Vec Ideal S512x1024 .f32) (x1 : Vec Ideal S512x1024 .bf16) (x2 : Vec Ideal S512x1024 .bf16) (x3 : Vec Ideal S512x1024 .bf16) (x4 : Vec Ideal S512x1024 .bf16) (x5 : Vec Ideal S1024x1024 .bf16) (x6 : Vec Ideal S1024x1024 .bf16) (x7 : Vec Ideal S1024x1024 .bf16) (x8 : Vec Ideal S1x1024 .f32) (x9 : Vec Ideal S1024x2048 .bf16) : k0_pay9 (F := Ideal) x0 x1 x2 x3 x4 x5 x6 x7 x8 x9 = k0_pay6 x1 x5 x2 x6 x3 x4 x0 x7 := by
  unfold k0_pay9; simp only [ld_a, ld_b]

/-- The first result array after the run is the reference's. -/
theorem final10 (c : Dev nD) : (dats m 0 c).arrAt 10 (cfgs 0).N
    = val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t _ y => ?_
  blk_simp
  rw [after0_10]; frame_out
  have ht : t.val < 128 := lt_of_lt_of_eq t.isLt N_0
  idx_vars y
  refine (x1_at m c t _ _ (by omega)).trans (congrArg _ ?_)
  blk_ext [idx t]

/-- The second result array after the run is the reference's. -/
theorem final11 (c : Dev nD) : (dats m 0 c).arrAt 11 (cfgs 0).N
    = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 11 _ (by decide +kernel) fun t _ y => ?_
  blk_simp
  rw [after0_11]; frame_out
  rw [pay7_eq, pay8_eq, pay9_eq]
  have ht : t.val < 128 := lt_of_lt_of_eq t.isLt N_0
  idx_vars y
  refine (xt3_at m c t _ _ _ (by omega)).trans (congrArg _ ?_)
  blk_ext [idx t]

/-- The third result array after the run is the reference's. -/
theorem final12 (c : Dev nD) : (dats m 0 c).arrAt 12 (cfgs 0).N
    = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 12 _ (by decide +kernel) fun t _ y => ?_
  blk_simp
  rw [after0_12]; frame_out
  rw [pay7_eq, pay8_eq, pay9_eq]
  have ht : t.val < 128 := lt_of_lt_of_eq t.isLt N_0
  idx_vars y
  refine (qp_at m c t _ _ (by omega)).trans (congrArg _ ?_)
  blk_ext [idx t]

end Cert.Kernel4Ideal.BranchMerge

end
-- ==== Proof.Value5.lean ====
module

public import proofs.«01_k».proof.Proof.Gen.Kernel5Ideal.Frame
public import proofs.«01_k».proof.Proof.Gen.Reference5Ideal.Run
public import proofs.«01_k».proof.Proof.Gen.Reference5Ideal.Read
public import Idealize.ShloMosaic.Lib.Pipeline.ValueKit
public import Idealize.ShloMosaic.Lib.Pointwise

@[expose] public section

set_option maxRecDepth 16384

/-!
The result of the final residual addition and normalisation, as one function of the arguments.
-/

noncomputable section

namespace Cert.Kernel5Ideal.FinalNorm

open Cert.Kernel5Ideal Cert.Kernel5Ideal.Gen Idealize.ShloMosaic Idealize.ShloMosaic.TcCoe Idealize.SL.Sem
open Idealize.ShloMosaic.Pipeline (Dat)
open Cert.Reference5Ideal.Read

variable (m : (ℓ : Loc nD τ sig) → Buf (Elt Ideal) ℓ)

/-- The block index of every window at every grid point. -/
theorem idx : ∀ t : Fin cfg0.N, win0_0.index t = ![t.val, 0] ∧ win0_1.index t = ![t.val, 0, 0]
    ∧ win0_2.index t = ![0, 0] ∧ win0_3.index t = ![t.val, 0] :=
  (by decide +kernel : ∀ t : Fin grid0.N, _)

/-- What the body stores at block index `y` of point `t` is the reference's element at the array index `y` sits at. -/
theorem point (c : Dev nD) (t : Fin cfg0.N) (y) :
    k0_pay1 (F := Ideal) (iblk m c 0 t) (iblk m c 1 t) (iblk m c 2 t) y
    = val_main_v14 (F := Ideal) (m ((c : Thread nD τ).loc main_arg0)) (m ((c : Thread nD τ).loc main_arg1)) (m ((c : Thread nD τ).loc main_arg2)) (((cfg0.win 3).blk t).view.emb y) := by
  pointwise [k0_pay1, val_main_v14, val_main_v13, val_main_v12, val_main_v11, val_main_v10, val_main_v9, val_main_v8,
    val_main_v7, val_main_cst_1, val_main_v6, val_main_v5, val_main_cst_0, val_main_v4, val_main_v3, val_main_cst, val_main_v2, val_main_v1, val_main_v0]
  blk_point [iblk, V, idx t]

/-- The result array after the run is the reference's. -/
theorem final (c : Dev nD) : (dats m 0 c).arrAt 3 (cfgs 0).N
    = val_main_v14 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.Kernel5Ideal.FinalNorm

end
-- ==== Proof.lean ====
/- Each claim about the stated programs, from the run of its program and, for the values, from what the result arrays hold. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Value1
public import proofs.«01_k».proof.Proof.AttnRun
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Value3
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Value4
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Value5
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The shape relations the precondition's operations take. -/
instance facts_finite : Cert.Pre_finite.Facts where
  slices_S65536x4096_S65536x1024_0_0 := by decide
  bitsLt_bf16_f32 := by decide
  bcast_S_S65536x1024 := by decide
  slices_S65536x3072_S65536x1024_0_0 := by decide
  bcast_S_S16x257 := by decide

/-- The band attention kernel runs to its end and leaves its arguments unchanged. -/
theorem frame_kernel : Cert.quiescent_Kernel := fun m ρ _ => Cert.Kernel.Gen.frame m ρ

/-- So does its idealization. -/
theorem frame_kernel_ideal : Cert.quiescent_KernelIdeal := fun m ρ _ => Cert.KernelIdeal.Gen.frame m ρ

/-- And so it does of finite queries, keys and table. -/
theorem frame_kernel_ideal_finite : Cert.quiescent_KernelIdeal_pre_finite := fun m ρ _ => Cert.KernelIdeal.Gen.frame m ρ

/-- And the band attention reference. -/
theorem frame_reference_ideal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- And so it does of finite queries, keys and table. -/
theorem frame_reference_ideal_finite : Cert.quiescent_ReferenceIdeal_pre_finite := fun m ρ _ =>
  frame_reference_ideal m ρ trivial

/-- The mask literal of the band attention kernel stands for −∞. -/
theorem preserves_kernel : Cert.preserves_Kernel_KernelIdeal :=
  IdealRules.named_const.statement Cert.KernelIdeal.κ "mask" .f32 0xF149F2CA#32 ⊥ rfl

set_option maxHeartbeats 1600000 in
/-- Over the reals, of finite queries, keys and table, the band attention kernel and its reference have the same results. -/
theorem algebraic_kernel : Cert.algebraic_KernelIdeal_ReferenceIdeal_pre_finite := by
  pair_intro
  · run_from Cert.KernelIdeal.Gen.run_main m g
    exact Cert.KernelIdeal.Gen.V_main_arg2 m c
  · refine (θ_run Cert.ReferenceIdeal.defs _ _).mono (fun r h c => ⟨(h c).1.trans ?_, (h c).2⟩) (Cert.ReferenceIdeal.Band.run_at m' g')
    rw [(hagree c).1, (hagree c).2.1, (hagree c).2.2]
    exact (Cert.KernelIdeal.BandAttention.final m hpre c).symm

/-- The input projection kernel runs to its end and leaves its arguments unchanged. -/
theorem frame_kernel3 : Cert.quiescent_Kernel3 := fun m ρ _ => Cert.Kernel3.Gen.frame m ρ

/-- So does its idealization. -/
theorem frame_kernel3_ideal : Cert.quiescent_Kernel3Ideal := fun m ρ _ => Cert.Kernel3Ideal.Gen.frame m ρ

/-- And the input projection reference. -/
theorem frame_reference3_ideal : Cert.quiescent_Reference3Ideal := fun m ρ _ =>
  (θ_run Cert.Reference3Ideal.defs _ _).mono (fun r h => ⟨fun c => (h c).2.2,
      Idealize.ShloMosaic.sem_eq_zero_of_no_sems (by decide) r.2⟩)
    (Cert.Reference3Ideal.Value.run (F := Ideal) m ρ)

/-- No operation of the input projection kernel is rewritten. -/
theorem preserves_kernel3 : Cert.preserves_Kernel3_Kernel3Ideal := trivial

set_option maxHeartbeats 1600000 in
/-- Over the reals the input projection kernel and its reference have the same results. -/
theorem algebraic_kernel3 : Cert.algebraic_Kernel3Ideal_Reference3Ideal := by
  pair_intro
  · run_from Cert.Kernel3Ideal.Gen.run_main m g
  · hlo_run
    · exact (Cert.Kernel3Ideal.InputProjection.final3 m c).symm
    · refine Eq.trans ?_ (Cert.Kernel3Ideal.InputProjection.final4 m c).symm
      rw [← (hagree c).2.2]
      exact Cert.Reference3Ideal.Read.val_main_v19_eq _ _ _

/-- The branch merge kernel runs to its end and leaves its arguments unchanged. -/
theorem frame_kernel4 : Cert.quiescent_Kernel4 := fun m ρ _ => Cert.Kernel4.Gen.frame m ρ

/-- So does its idealization. -/
theorem frame_kernel4_ideal : Cert.quiescent_Kernel4Ideal := fun m ρ _ => Cert.Kernel4Ideal.Gen.frame m ρ

/-- And the branch merge reference. -/
theorem frame_reference4_ideal : Cert.quiescent_Reference4Ideal := fun m ρ _ =>
  (θ_run Cert.Reference4Ideal.defs _ _).mono (fun r h => ⟨fun c => (h c).2.2.2,
      Idealize.ShloMosaic.sem_eq_zero_of_no_sems (by decide) r.2⟩)
    (Cert.Reference4Ideal.Value.run (F := Ideal) m ρ)

/-- No operation of the branch merge kernel is rewritten. -/
theorem preserves_kernel4 : Cert.preserves_Kernel4_Kernel4Ideal := trivial

set_option maxHeartbeats 1600000 in
/-- Over the reals the branch merge kernel and its reference have the same results. -/
theorem algebraic_kernel4 : Cert.algebraic_Kernel4Ideal_Reference4Ideal := by
  pair_intro
  · run_from Cert.Kernel4Ideal.Gen.run_main m g
  · hlo_run
    · exact (Cert.Kernel4Ideal.BranchMerge.final10 m c).symm
    · exact (Cert.Kernel4Ideal.BranchMerge.final11 m c).symm
    · exact (Cert.Kernel4Ideal.BranchMerge.final12 m c).symm

/-- The final norm kernel runs to its end and leaves its arguments unchanged. -/
theorem frame_kernel5 : Cert.quiescent_Kernel5 := fun m ρ _ => Cert.Kernel5.Gen.frame m ρ

/-- So does its idealization. -/
theorem frame_kernel5_ideal : Cert.quiescent_Kernel5Ideal := fun m ρ _ => Cert.Kernel5Ideal.Gen.frame m ρ

/-- And the final norm reference. -/
theorem frame_reference5_ideal : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

/-- No operation of the final norm kernel is rewritten. -/
theorem preserves_kernel5 : Cert.preserves_Kernel5_Kernel5Ideal := trivial

set_option maxHeartbeats 1600000 in
/-- Over the reals the final norm kernel and its reference have the same results. -/
theorem algebraic_kernel5 : Cert.algebraic_Kernel5Ideal_Reference5Ideal := by
  pair_intro
  · run_from Cert.Kernel5Ideal.Gen.run_main m g
  · hlo_run
    exact (Cert.Kernel5Ideal.FinalNorm.final m c).symm

/-- All claims together. -/
theorem claim : Cert.Claim :=
  ⟨Cert.Kernel.Gen.facts, Cert.KernelIdeal.Gen.facts, Cert.ReferenceIdeal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, facts_finite,
    frame_kernel, frame_kernel_ideal, frame_kernel_ideal_finite, frame_reference_ideal, frame_reference_ideal_finite, frame_kernel3, frame_kernel3_ideal, frame_reference3_ideal, frame_kernel4, frame_kernel4_ideal, frame_reference4_ideal, frame_kernel5, frame_kernel5_ideal, frame_reference5_ideal,
    preserves_kernel, algebraic_kernel, preserves_kernel3, algebraic_kernel3, preserves_kernel4, algebraic_kernel4, preserves_kernel5, algebraic_kernel5⟩

end Cert.Proof

end
